-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3072x6656 : Shape := ⟨3, ![8, 3072, 6656]⟩
abbrev S12032x6656 : Shape := ⟨2, ![12032, 6656]⟩
abbrev S12032 : Shape := ⟨1, ![12032]⟩
abbrev S1x12032 : Shape := ⟨2, ![1, 12032]⟩
abbrev S8x384x8x12032 : Shape := ⟨4, ![8, 384, 8, 12032]⟩
abbrev S8x3072x1 : Shape := ⟨3, ![8, 3072, 1]⟩
abbrev S1x1024x6656 : Shape := ⟨3, ![1, 1024, 6656]⟩
abbrev S512x6656 : Shape := ⟨2, ![512, 6656]⟩
abbrev S1x512 : Shape := ⟨2, ![1, 512]⟩
abbrev S1x128x8x512 : Shape := ⟨4, ![1, 128, 8, 512]⟩
abbrev S1x1024x1 : Shape := ⟨3, ![1, 1024, 1]⟩
abbrev S1x64x6656 : Shape := ⟨3, ![1, 64, 6656]⟩
abbrev S64x6656 : Shape := ⟨2, ![64, 6656]⟩
abbrev S64 : Shape := ⟨1, ![64]⟩
abbrev S64x1 : Shape := ⟨2, ![64, 1]⟩
abbrev S1x64x1 : Shape := ⟨3, ![1, 64, 1]⟩
abbrev S1024x6656 : Shape := ⟨2, ![1024, 6656]⟩
abbrev S1024x512 : Shape := ⟨2, ![1024, 512]⟩
abbrev S1024x1 : Shape := ⟨2, ![1024, 1]⟩
abbrev S128x8x512 : Shape := ⟨3, ![128, 8, 512]⟩
abbrev S8x3072x12032 : Shape := ⟨3, ![8, 3072, 12032]⟩

abbrev nBuf : Space → Nat
  | .hbm => 8
  | .vmem => 12
  | .smem => 0
  | _ => 0

abbrev bufTy : (tb : Table) → Fin (tcTables nBuf tb) → BufTy
  | .hbm, ⟨0, _⟩ => ⟨S8x3072x6656, .bf16⟩
  | .hbm, ⟨1, _⟩ => ⟨S12032x6656, .fp8e4m3⟩
  | .hbm, ⟨2, _⟩ => ⟨S12032, .f32⟩
  | .hbm, ⟨3, _⟩ => ⟨S1x12032, .f32⟩
  | .hbm, ⟨4, _⟩ => ⟨S8x384x8x12032, .bf16⟩
  | .hbm, ⟨5, _⟩ => ⟨S8x3072x6656, .fp8e4m3⟩
  | .hbm, ⟨6, _⟩ => ⟨S8x3072x1, .f32⟩
  | .hbm, ⟨7, _⟩ => ⟨S8x3072x12032, .bf16⟩
  | .local _ .vmem, ⟨0, _⟩ => ⟨S1x1024x6656, .bf16⟩
  | .local _ .vmem, ⟨1, _⟩ => ⟨S1x1024x6656, .bf16⟩
  | .local _ .vmem, ⟨2, _⟩ => ⟨S512x6656, .fp8e4m3⟩
  | .local _ .vmem, ⟨3, _⟩ => ⟨S512x6656, .fp8e4m3⟩
  | .local _ .vmem, ⟨4, _⟩ => ⟨S1x512, .f32⟩
  | .local _ .vmem, ⟨5, _⟩ => ⟨S1x512, .f32⟩
  | .local _ .vmem, ⟨6, _⟩ => ⟨S1x128x8x512, .bf16⟩
  | .local _ .vmem, ⟨7, _⟩ => ⟨S1x128x8x512, .bf16⟩
  | .local _ .vmem, ⟨8, _⟩ => ⟨S1x1024x6656, .fp8e4m3⟩
  | .local _ .vmem, ⟨9, _⟩ => ⟨S1x1024x6656, .fp8e4m3⟩
  | .local _ .vmem, ⟨10, _⟩ => ⟨S1x1024x1, .f32⟩
  | .local _ .vmem, ⟨11, _⟩ => ⟨S1x1024x1, .f32⟩
  | _, _ => ⟨S8x3072x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![24, 24], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_14 : BitVec 32 := 0#32
  let c16_i32 : BitVec 32 := 16#32
  let v20 : BitVec 32 := Scalar.addi c0_i32_14 c16_i32
  let c1_i32 : BitVec 32 := 1#32
  ⟨c0_i32_14, v20, c1_i32⟩
def k0_mult1 (k0_t1 : Fin k0_t1_loop.trips) : BitVec 32 :=
  let c0_i32_14 : BitVec 32 := 0#32
  let c1_i32 : BitVec 32 := 1#32
  let arg8 : BitVec 32 := Scf.iv c0_i32_14 c1_i32 k0_t1
  let c64_i32 : BitVec 32 := 64#32
  let v21 : BitVec 32 := Scalar.muli arg8 c64_i32
  v21
def k0_off1 (k0_t1 : Fin k0_t1_loop.trips) : Fin 3 → Nat :=
  let c0_16 : Index := 0#32
  let c0_i32_14 : BitVec 32 := 0#32
  let c1_i32 : BitVec 32 := 1#32
  let arg8 : BitVec 32 := Scf.iv c0_i32_14 c1_i32 k0_t1
  let c64_i32 : BitVec 32 := 64#32
  let v21 : BitVec 32 := Scalar.muli arg8 c64_i32
  let v22 : BitVec 32 := v21
  let v23 : Index := Scalar.indexCast v22
  let c0_17 : Index := 0#32
  ![0, v23.toNat, 0]
def k0_off2 (k0_t1 : Fin k0_t1_loop.trips) : Fin 3 → Nat :=
  let c0_29 : Index := 0#32
  let c0_i32_14 : BitVec 32 := 0#32
  let c1_i32 : BitVec 32 := 1#32
  let arg8 : BitVec 32 := Scf.iv c0_i32_14 c1_i32 k0_t1
  let c64_i32 : BitVec 32 := 64#32
  let v21 : BitVec 32 := Scalar.muli arg8 c64_i32
  let v22 : BitVec 32 := v21
  let v61 : Index := Scalar.indexCast v22
  let c0_30 : Index := 0#32
  ![0, v61.toNat, 0]
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x1024x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x6656 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x8x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x6656 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8x3072x6656 : Shape := ⟨3, ![8, 3072, 6656]⟩
abbrev S12032x6656 : Shape := ⟨2, ![12032, 6656]⟩
abbrev S12032 : Shape := ⟨1, ![12032]⟩
abbrev S8x3072x12032 : Shape := ⟨3, ![8, 3072, 12032]⟩
abbrev S8x3072x1 : Shape := ⟨3, ![8, 3072, 1]⟩
abbrev S8x3072 : Shape := ⟨2, ![8, 3072]⟩
abbrev S1x1x12032 : Shape := ⟨3, ![1, 1, 12032]⟩

abbrev nBuf : Space → Nat
  | .hbm => 6
  | .vmem => 6
  | .smem => 0
  | _ => 0

abbrev bufTy : (tb : Table) → Fin (tcTables nBuf tb) → BufTy
  | .hbm, ⟨0, _⟩ => ⟨S8x3072x6656, .bf16⟩
  | .hbm, ⟨1, _⟩ => ⟨S12032x6656, .fp8e4m3⟩
  | .hbm, ⟨2, _⟩ => ⟨S12032, .f32⟩
  | .hbm, ⟨3, _⟩ => ⟨S8x3072x12032, .bf16⟩
  | .hbm, ⟨4, _⟩ => ⟨S8x3072x6656, .fp8e4m3⟩
  | .hbm, ⟨5, _⟩ => ⟨S8x3072x1, .f32⟩
  | .local _ .vmem, ⟨0, _⟩ => ⟨S8x3072x6656, .bf16⟩
  | .local _ .vmem, ⟨1, _⟩ => ⟨S12032x6656, .fp8e4m3⟩
  | .local _ .vmem, ⟨2, _⟩ => ⟨S12032, .f32⟩
  | .local _ .vmem, ⟨3, _⟩ => ⟨S8x3072x12032, .bf16⟩
  | .local _ .vmem, ⟨4, _⟩ => ⟨S8x3072x6656, .fp8e4m3⟩
  | .local _ .vmem, ⟨5, _⟩ => ⟨S8x3072x1, .f32⟩
  | _, _ => ⟨S8x3072x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x3072x6656 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12032x6656 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12032 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x3072x12032 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x3072x6656 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x3072x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KBody.lean ====
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Pipeline.TableIdle
public import Idealize.ShloMosaic.Lib.Pipeline.Value
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernel's variants: none. -/
abbrev 𝒱₀ : Variants := Variants.none

/-- Slab `k` of a block of `x`: rows `64 k ‥ 64 k + 63`. -/
def slab (X : S1x1024x6656.Idx → Elt F .bf16) (k : ℕ) (hk : k < 16) : S1x64x6656.Idx → Elt F .bf16 := fun x =>
  X (fun | 0 => x 0 | 1 => ⟨64 * k + (x 1).val, by have : (x 1).val < 64 := (x 1).isLt; show _ < 1024; omega⟩ | 2 => x 2)

variable (c : Dev nD) (i : grid0.Coords) (arg2 : Memref sig .tc .vmem S1x1024x6656 .bf16) (harg2 : arg2.IsWhole) (arg3 : Memref sig .tc .vmem S512x6656 .fp8e4m3) (harg3 : arg3.IsWhole) (arg4 : Memref sig .tc .vmem S1x512 .f32) (harg4 : arg4.IsWhole) (arg5 : Memref sig .tc .vmem S1x128x8x512 .bf16) (harg5 : arg5.IsWhole) (arg6 : Memref sig .tc .vmem S1x1024x6656 .fp8e4m3) (harg6 : arg6.IsWhole) (arg7 : Memref sig .tc .vmem S1x1024x1 .f32) (harg7 : arg7.IsWhole)

theorem tripL_eq (k0_h1 : k0_cond1 i = 1#1) (X : BufTy.Contents (Elt F) arg2.view.ty) (k : Fin k0_t1_loop.trips) :
    tripL_k0_t1 (F := F) 𝒱₀ c none i arg2 harg2 arg3 harg3 arg4 harg4 arg5 harg5 arg6 harg6 arg7 harg7 k0_h1 X k
      = ([⟨Rect.unit (s := S1x1024x6656) (k0_off1 k) S1x64x6656.size (k0_off1_inb i k k0_h1), k0_pay6 (arg2.view.readAt (Elt F) (Rect.unit (s := S1x1024x6656) (k0_off1 k) S1x64x6656.size (k0_off1_inb i k k0_h1)).toLoadRect X)⟩],
         [⟨Rect.unit (s := S1x1024x1) (k0_off2 k) S1x64x1.size (k0_off2_inb i k k0_h1), k0_pay1 (k0_pay5 (arg2.view.readAt (Elt F) (Rect.unit (s := S1x1024x6656) (k0_off1 k) S1x64x6656.size (k0_off1_inb i k k0_h1)).toLoadRect X))⟩]) := by
  unfold tripL_k0_t1 trip_k0_t1; rfl

/-- The codes of a block of `x`: row `r` takes its slab's codes. -/
def qc (X : S1x1024x6656.Idx → Elt F .bf16) : S1x1024x6656.Idx → Elt F .fp8e4m3 := fun y =>
  k0_pay6 (slab X ((y 1).val / 64) (by have : (y 1).val < 1024 := (y 1).isLt; omega))
    (fun | 0 => y 0 | 1 => ⟨(y 1).val % 64, Nat.mod_lt _ (by decide)⟩ | 2 => y 2)

/-- The scales of a block of `x`. -/
def qs (X : S1x1024x6656.Idx → Elt F .bf16) : S1x1024x1.Idx → Elt F .f32 := fun y =>
  k0_pay1 (k0_pay5 (slab X ((y 1).val / 64) (by have : (y 1).val < 1024 := (y 1).isLt; omega)))
    (fun | 0 => y 0 | 1 => ⟨(y 1).val % 64, Nat.mod_lt _ (by decide)⟩ | 2 => y 2)

/-- `qc` at row `64 k + j` of slab `k`. -/
theorem qc_at (X : S1x1024x6656.Idx → Elt F .bf16) (y : S1x1024x6656.Idx) (x : S1x64x6656.Idx) (k : ℕ) (hk : k < 16)
    (h0 : (y 0).val = (x 0).val) (h1 : (y 1).val = 64 * k + (x 1).val) (h2 : (y 2).val = (x 2).val) :
    qc X y = k0_pay6 (slab X k hk) x := by
  have hx : (x 1).val < 64 := (x 1).isLt
  have e : (y 1).val / 64 = k := by omega
  subst e
  unfold qc
  congr 1
  funext a
  match a with
  | 0 => exact Fin.ext h0
  | 1 => exact Fin.ext (show (y 1).val % 64 = (x 1).val by omega)
  | 2 => exact Fin.ext h2

/-- `qs` at row `64 k + j` of slab `k`. -/
theorem qs_at (X : S1x1024x6656.Idx → Elt F .bf16) (y : S1x1024x1.Idx) (x : S1x64x1.Idx) (k : ℕ) (hk : k < 16)
    (h0 : (y 0).val = (x 0).val) (h1 : (y 1).val = 64 * k + (x 1).val) (h2 : (y 2).val = (x 2).val) :
    qs X y = k0_pay1 (k0_pay5 (slab X k hk)) x := by
  have hx : (x 1).val < 64 := (x 1).isLt
  have e : (y 1).val / 64 = k := by omega
  subst e
  unfold qs
  congr 1
  funext a
  match a with
  | 0 => exact Fin.ext h0
  | 1 => exact Fin.ext (show (y 1).val % 64 = (x 1).val by omega)
  | 2 => exact Fin.ext h2

/-- A trip's load of `x` reads its slab. -/
theorem readAt_slab (k0_h1 : k0_cond1 i = 1#1) (X0 : S1x1024x6656.Idx → Elt F .bf16) (k : Fin k0_t1_loop.trips) (hk : k.val < 16) :
    arg2.view.readAt (Elt F) (Rect.unit (s := S1x1024x6656) (k0_off1 k) S1x64x6656.size (k0_off1_inb i k k0_h1)).toLoadRect (arg2.view.rep X0)
      = slab X0 k.val hk := by
  rw [View.readAt_rep_unit arg2.view X0 (k0_off1_inb i k k0_h1) (k0_off1_eq k) (by rw [← k0_off1_eq k]; exact k0_off1_inb i k k0_h1)]
  funext x
  unfold VecWindow.window slab
  refine congrArg X0 (funext fun a => ?_)
  match a with
  | 0 => exact Fin.ext (by show 0 + 1 * (x 0).val = (x 0).val; omega)
  | 1 => exact Fin.ext (by show 64 * k.val + 1 * (x 1).val = 64 * k.val + (x 1).val; omega)
  | 2 => exact Fin.ext (by show 0 + 1 * (x 2).val = (x 2).val; omega)

/-- After `n` trips: every stored piece agrees with the codes and scales of the block, and the rows below `64 n`
    are covered. -/
theorem pieces (k0_h1 : k0_cond1 i = 1#1) (X0 : S1x1024x6656.Idx → Elt F .bf16) : ∀ n, n ≤ k0_t1_loop.trips →
    ((∀ p ∈ (pb_k0_t1 (F := F) 𝒱₀ c none i arg2 harg2 arg3 harg3 arg4 harg4 arg5 harg5 arg6 harg6 arg7 harg7 k0_h1 (arg2.view.rep X0) n).1, ∀ x, p.2 x = qc X0 (p.1.emb x))
      ∧ (∀ y : S1x1024x6656.Idx, (y 1).val < 64 * n → ∃ p ∈ (pb_k0_t1 (F := F) 𝒱₀ c none i arg2 harg2 arg3 harg3 arg4 harg4 arg5 harg5 arg6 harg6 arg7 harg7 k0_h1 (arg2.view.rep X0) n).1, y ∈ p.1.set))
    ∧ ((∀ p ∈ (pb_k0_t1 (F := F) 𝒱₀ c none i arg2 harg2 arg3 harg3 arg4 harg4 arg5 harg5 arg6 harg6 arg7 harg7 k0_h1 (arg2.view.rep X0) n).2, ∀ x, p.2 x = qs X0 (p.1.emb x))
      ∧ (∀ y : S1x1024x1.Idx, (y 1).val < 64 * n → ∃ p ∈ (pb_k0_t1 (F := F) 𝒱₀ c none i arg2 harg2 arg3 harg3 arg4 harg4 arg5 harg5 arg6 harg6 arg7 harg7 k0_h1 (arg2.view.rep X0) n).2, y ∈ p.1.set))
  | 0, _ => ⟨⟨fun p hp => absurd hp List.not_mem_nil, fun y hy => absurd hy (by omega)⟩, ⟨fun p hp => absurd hp List.not_mem_nil, fun y hy => absurd hy (by omega)⟩⟩
  | n + 1, hn => by
    obtain ⟨⟨hc, hcc⟩, ⟨hs, hss⟩⟩ := pieces k0_h1 X0 n (by omega)
    have hk : n < 16 := Nat.lt_of_lt_of_le hn k0_t1_abs.2.1
    have e := pb_k0_t1_succ (F := F) 𝒱₀ c none i arg2 harg2 arg3 harg3 arg4 harg4 arg5 harg5 arg6 harg6 arg7 harg7 k0_h1 (arg2.view.rep X0) ⟨n, hn⟩
    rw [tripL_eq, readAt_slab i arg2 k0_h1 X0 ⟨n, hn⟩ hk] at e
    rw [show n + 1 = (⟨n, hn⟩ : Fin k0_t1_loop.trips).val + 1 from rfl, e]
    have o1 := k0_off1_eq ⟨n, hn⟩
    have o2 := k0_off2_eq ⟨n, hn⟩
    refine ⟨⟨fun p hp x => ?_, fun y hy => ?_⟩, ⟨fun p hp x => ?_, fun y hy => ?_⟩⟩
    · rcases List.mem_cons.1 hp with rfl | hp
      · refine (qc_at X0 _ x n hk ?_ ?_ ?_).symm
        · have q : k0_off1 ⟨n, hn⟩ 0 = 0 := congrFun o1 0
          show k0_off1 ⟨n, hn⟩ 0 + 1 * (x 0).val = _; omega
        · have q : k0_off1 ⟨n, hn⟩ 1 = 64 * n := congrFun o1 1
          show k0_off1 ⟨n, hn⟩ 1 + 1 * (x 1).val = _; omega
        · have q : k0_off1 ⟨n, hn⟩ 2 = 0 := congrFun o1 2
          show k0_off1 ⟨n, hn⟩ 2 + 1 * (x 2).val = _; omega
      · exact hc p hp x
    · by_cases h : (y 1).val < 64 * n
      · obtain ⟨p, hp, hy⟩ := hcc y h
        exact ⟨p, List.mem_cons_of_mem _ hp, hy⟩
      · refine ⟨_, List.mem_cons_self, ?_⟩
        refine (Rect.mem_set_unit (inb := k0_off1_inb i ⟨n, hn⟩ k0_h1)).mpr fun a => ?_
        rw [o1]
        have b0 : (y 0).val < 1 := (y 0).isLt
        have b2 : (y 2).val < 6656 := (y 2).isLt
        have hy : (y 1).val < 64 * (n + 1) := hy
        match a with
        | 0 => show 0 ≤ (y 0).val ∧ (y 0).val < 0 + 1; omega
        | 1 => show 64 * n ≤ (y 1).val ∧ (y 1).val < 64 * n + 64; omega
        | 2 => show 0 ≤ (y 2).val ∧ (y 2).val < 0 + 6656; omega
    · rcases List.mem_cons.1 hp with rfl | hp
      · refine (qs_at X0 _ x n hk ?_ ?_ ?_).symm
        · have q : k0_off2 ⟨n, hn⟩ 0 = 0 := congrFun o2 0
          show k0_off2 ⟨n, hn⟩ 0 + 1 * (x 0).val = _; omega
        · have q : k0_off2 ⟨n, hn⟩ 1 = 64 * n := congrFun o2 1
          show k0_off2 ⟨n, hn⟩ 1 + 1 * (x 1).val = _; omega
        · have q : k0_off2 ⟨n, hn⟩ 2 = 0 := congrFun o2 2
          show k0_off2 ⟨n, hn⟩ 2 + 1 * (x 2).val = _; omega
      · exact hs p hp x
    · by_cases h : (y 1).val < 64 * n
      · obtain ⟨p, hp, hy⟩ := hss y h
        exact ⟨p, List.mem_cons_of_mem _ hp, hy⟩
      · refine ⟨_, List.mem_cons_self, ?_⟩
        refine (Rect.mem_set_unit (inb := k0_off2_inb i ⟨n, hn⟩ k0_h1)).mpr fun a => ?_
        rw [o2]
        have b0 : (y 0).val < 1 := (y 0).isLt
        have b2 : (y 2).val < 1 := (y 2).isLt
        have hy : (y 1).val < 64 * (n + 1) := hy
        match a with
        | 0 => show 0 ≤ (y 0).val ∧ (y 0).val < 0 + 1; omega
        | 1 => show 64 * n ≤ (y 1).val ∧ (y 1).val < 64 * n + 64; omega
        | 2 => show 0 ≤ (y 2).val ∧ (y 2).val < 0 + 1; omega

theorem trips_eq : Scf.trips k0_t1_loop.lb k0_t1_loop.ub k0_t1_loop.st = 16 := by decide +kernel

/-- After the loop the codes' buffer reads the block's codes. -/
theorem read_codes (k0_h1 : k0_cond1 i = 1#1) (X0 : S1x1024x6656.Idx → Elt F .bf16) (f : BufTy.Contents (Elt F) arg6.view.ty) :
    arg6.view.read (Elt F) (arg6.view.writes (Elt F) f (pb_k0_t1 (F := F) 𝒱₀ c none i arg2 harg2 arg3 harg3 arg4 harg4 arg5 harg5 arg6 harg6 arg7 harg7 k0_h1 (arg2.view.rep X0) (Scf.trips k0_t1_loop.lb k0_t1_loop.ub k0_t1_loop.st)).1) = qc X0 := by
  obtain ⟨⟨hc, hcc⟩, -⟩ := pieces c i arg2 harg2 arg3 harg3 arg4 harg4 arg5 harg5 arg6 harg6 arg7 harg7 k0_h1 X0 _ (Nat.le_refl _)
  funext y
  refine View.read_writes_apply_of_pieces arg6.view f (qc X0) _ hc y (hcc y ?_)
  have : (y 1).val < 1024 := (y 1).isLt
  rw [show k0_t1_loop.trips = 16 from trips_eq]; exact this

/-- After the loop the scales' buffer reads the block's scales. -/
theorem read_scales (k0_h1 : k0_cond1 i = 1#1) (X0 : S1x1024x6656.Idx → Elt F .bf16) (f : BufTy.Contents (Elt F) arg7.view.ty) :
    arg7.view.read (Elt F) (arg7.view.writes (Elt F) f (pb_k0_t1 (F := F) 𝒱₀ c none i arg2 harg2 arg3 harg3 arg4 harg4 arg5 harg5 arg6 harg6 arg7 harg7 k0_h1 (arg2.view.rep X0) (Scf.trips k0_t1_loop.lb k0_t1_loop.ub k0_t1_loop.st)).2) = qs X0 := by
  obtain ⟨-, ⟨hc, hcc⟩⟩ := pieces c i arg2 harg2 arg3 harg3 arg4 harg4 arg5 harg5 arg6 harg6 arg7 harg7 k0_h1 X0 _ (Nat.le_refl _)
  funext y
  refine View.read_writes_apply_of_pieces arg7.view f (qs X0) _ hc y (hcc y ?_)
  have : (y 1).val < 1024 := (y 1).isLt
  rw [show k0_t1_loop.trips = 16 from trips_eq]; exact this

/-- Window 3's buffer written whole reads what was written. -/
theorem read_whole (f : BufTy.Contents (Elt F) arg5.view.ty) (inb) (w : S1x128x8x512.Idx → Elt F .bf16) :
    arg5.view.read (Elt F) (arg5.view.writes (Elt F) f [⟨Rect.unit (s := S1x128x8x512) ![0, 0, 0, 0] S1x128x8x512.size inb, w⟩]) = w :=
  View.read_writes_full ..

/-- THE BODY at a row block's first point: codes and scales of the whole block, and the product's block. -/
theorem body_first (k0_h1 : k0_cond1 i = 1#1) (X0 : S1x1024x6656.Idx → Elt F .bf16) (X1 : S512x6656.Idx → Elt F .fp8e4m3) (X2 : S1x512.Idx → Elt F .f32)
    (X3 : S1x128x8x512.Idx → Elt F .bf16) (X4 : S1x1024x6656.Idx → Elt F .fp8e4m3) (X5 : S1x1024x1.Idx → Elt F .f32) :
    iprop(owns (c : Thread nD τ) arg2 fullShare X0 ∗ owns (c : Thread nD τ) arg3 fullShare X1 ∗ owns (c : Thread nD τ) arg4 fullShare X2
        ∗ owns (c : Thread nD τ) arg5 fullShare X3 ∗ owns (c : Thread nD τ) arg6 fullShare X4 ∗ owns (c : Thread nD τ) arg7 fullShare X5)
      ⊢ wp (M := 𝕄) frame (wpE (defs₀ (F := F)) 𝒱₀ c none) Set.univ
          (cc0__body i arg2 harg2 arg3 harg3 arg4 harg4 arg5 harg5 arg6 harg6 arg7 harg7) fun _ =>
          iprop(owns (c : Thread nD τ) arg2 fullShare X0 ∗ owns (c : Thread nD τ) arg3 fullShare X1 ∗ owns (c : Thread nD τ) arg4 fullShare X2
            ∗ owns (c : Thread nD τ) arg5 fullShare (k0_pay2 (qc X0) X1 (qs X0) X2) ∗ owns (c : Thread nD τ) arg6 fullShare (qc X0) ∗ owns (c : Thread nD τ) arg7 fullShare (qs X0)) := by
  simp only [owns_eq_rep (c : Thread nD τ) arg2, owns_eq_rep (c : Thread nD τ) arg3, owns_eq_rep (c : Thread nD τ) arg4, owns_eq_rep (c : Thread nD τ) arg5 _ X3, owns_eq_rep (c : Thread nD τ) arg6 _ X4, owns_eq_rep (c : Thread nD τ) arg7 _ X5, cc0__body_eq_skeleton]; unfold cc0__body_skel
  iintro ⟨H0, H1, H2, H3, H4, H5⟩
  sl_exec (disch := sl_exact k0_h1)
  sl_step
  isplitl [H0]; · iexact H0
  isplitl [H1]; · iexact H1
  isplitl [H2]; · iexact H2
  isplitl [H3]
  · unfold owns
    iexists _; isplitr; rotate_left; · iexact H3
    ipureintro
    rw [read_whole]
    unfold body_first.sl.v3 body_first.sl.v7
    rw [View.readAt_full, View.readAt_rep_full, View.readAt_full, View.readAt_rep_full, read_codes, read_scales]
  isplitl [H4]
  · unfold owns
    iexists _; isplitr; rotate_left; · iexact H4
    ipureintro
    exact read_codes ..
  unfold owns
  iexists _; isplitr; rotate_left; · iexact H5
  ipureintro
  exact read_scales ..

/-- THE BODY at a row block's other points: codes and scales stay, and the product's block is of them. -/
theorem body_rest (k0_h1 : ¬ k0_cond1 i = 1#1) (X0 : S1x1024x6656.Idx → Elt F .bf16) (X1 : S512x6656.Idx → Elt F .fp8e4m3) (X2 : S1x512.Idx → Elt F .f32)
    (X3 : S1x128x8x512.Idx → Elt F .bf16) (X4 : S1x1024x6656.Idx → Elt F .fp8e4m3) (X5 : S1x1024x1.Idx → Elt F .f32) :
    iprop(owns (c : Thread nD τ) arg2 fullShare X0 ∗ owns (c : Thread nD τ) arg3 fullShare X1 ∗ owns (c : Thread nD τ) arg4 fullShare X2
        ∗ owns (c : Thread nD τ) arg5 fullShare X3 ∗ owns (c : Thread nD τ) arg6 fullShare X4 ∗ owns (c : Thread nD τ) arg7 fullShare X5)
      ⊢ wp (M := 𝕄) frame (wpE (defs₀ (F := F)) 𝒱₀ c none) Set.univ
          (cc0__body i arg2 harg2 arg3 harg3 arg4 harg4 arg5 harg5 arg6 harg6 arg7 harg7) fun _ =>
          iprop(owns (c : Thread nD τ) arg2 fullShare X0 ∗ owns (c : Thread nD τ) arg3 fullShare X1 ∗ owns (c : Thread nD τ) arg4 fullShare X2
            ∗ owns (c : Thread nD τ) arg5 fullShare (k0_pay2 X4 X1 X5 X2) ∗ owns (c : Thread nD τ) arg6 fullShare X4 ∗ owns (c : Thread nD τ) arg7 fullShare X5) := by
  simp only [owns_eq_rep (c : Thread nD τ) arg2, owns_eq_rep (c : Thread nD τ) arg3, owns_eq_rep (c : Thread nD τ) arg4, owns_eq_rep (c : Thread nD τ) arg5 _ X3, owns_eq_rep (c : Thread nD τ) arg6, owns_eq_rep (c : Thread nD τ) arg7, cc0__body_eq_skeleton]; unfold cc0__body_skel
  iintro ⟨H0, H1, H2, H3, H4, H5⟩
  sl_exec (disch := sl_exact k0_h1)
  sl_step
  isplitl [H0]; · iexact H0
  isplitl [H1]; · iexact H1
  isplitl [H2]; · iexact H2
  isplitl [H3]
  · unfold owns
    iexists _; isplitr; rotate_left; · iexact H3
    ipureintro
    rw [read_whole]
    rw [View.readAt_rep_full, View.readAt_rep_full, View.readAt_rep_full, View.readAt_rep_full]
  isplitl [H4]; · iexact H4
  iexact H5

end Cert.KernelIdeal.Hand

end
-- ==== Proof.KFrame.lean ====
module

public import proofs.«01_k».proof.Proof.KBody
public import Idealize.ShloMosaic.Lib.Pipeline.KitQuiescent

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of the weight codes at a point as the body may find it: the rows inside the array are the array's, the
    rest are `d`'s. -/
abbrev wblk (c : Dev nD) (t : Fin cfg0.N) (d : S512x6656.Idx → Elt F .fp8e4m3) : S512x6656.Idx → Elt F .fp8e4m3 :=
  win0_1.fill (grid0.coords t) d (iblk m c 1 t)
/-- The same of the weight scales. -/
abbrev wsblk (c : Dev nD) (t : Fin cfg0.N) (d : S1x512.Idx → Elt F .f32) : S1x512.Idx → Elt F .f32 :=
  win0_2.fill (grid0.coords t) d (iblk m c 2 t)

/-- The frame run's proof data: the inputs' blocks stay in place, the results' buffers are not named. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t (fun _ => Scalar.ofBits .fp8e4m3 0#8)
    | ⟨2, _⟩ => wsblk m c t (fun _ => Scalar.ofBits .f32 0#32)
    | ⟨3, _⟩ => Dat.unnamed 3 t
    | ⟨4, _⟩ => Dat.unnamed 4 t
    | ⟨5, _⟩ => Dat.unnamed 5 t
  Φ _ := Pipeline.ΦA spec0 c
  q _ := fullShare
  owed _ := 0

/-- The windows the frame run says nothing of: the results'. -/
abbrev fgt0 : Fin 6 → Bool := fun | 0 => false | 1 => false | 2 => false | _ => true

theorem fbefore_0 (c : Dev nD) (t : Fin cfg0.N) (d) : (fdats m 0 c).before 0 t d = iblk m c 0 t :=
  before0_0_of m (fdats m 0 c) rfl (fun _ => rfl) t d
theorem fbefore_1 (c : Dev nD) (t : Fin cfg0.N) (d) : (fdats m 0 c).before 1 t d = wblk m c t d := by
  unfold Dat.before; rw [if_pos (fetch0_1 t)]; rfl
theorem fbefore_2 (c : Dev nD) (t : Fin cfg0.N) (d) : (fdats m 0 c).before 2 t d = wsblk m c t d := by
  unfold Dat.before; rw [if_pos (fetch0_2 t)]; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- THE BODY at any point, what it leaves in the results' buffers unnamed. -/
theorem body_any (c : Dev nD) (i : grid0.Coords) (arg2 : Memref sig .tc .vmem S1x1024x6656 .bf16) (harg2 : arg2.IsWhole) (arg3 : Memref sig .tc .vmem S512x6656 .fp8e4m3) (harg3 : arg3.IsWhole) (arg4 : Memref sig .tc .vmem S1x512 .f32) (harg4 : arg4.IsWhole) (arg5 : Memref sig .tc .vmem S1x128x8x512 .bf16) (harg5 : arg5.IsWhole) (arg6 : Memref sig .tc .vmem S1x1024x6656 .fp8e4m3) (harg6 : arg6.IsWhole) (arg7 : Memref sig .tc .vmem S1x1024x1 .f32) (harg7 : arg7.IsWhole)
    (X0 : S1x1024x6656.Idx → Elt F .bf16) (X1 : S512x6656.Idx → Elt F .fp8e4m3) (X2 : S1x512.Idx → Elt F .f32)
    (X3 : S1x128x8x512.Idx → Elt F .bf16) (X4 : S1x1024x6656.Idx → Elt F .fp8e4m3) (X5 : S1x1024x1.Idx → Elt F .f32) :
    iprop(owns (c : Thread nD τ) arg2 fullShare X0 ∗ owns (c : Thread nD τ) arg3 fullShare X1 ∗ owns (c : Thread nD τ) arg4 fullShare X2
        ∗ owns (c : Thread nD τ) arg5 fullShare X3 ∗ owns (c : Thread nD τ) arg6 fullShare X4 ∗ owns (c : Thread nD τ) arg7 fullShare X5)
      ⊢ wp (M := 𝕄) frame (wpE (defs₀ (F := F)) 𝒱₀ c none) Set.univ
          (cc0__body i arg2 harg2 arg3 harg3 arg4 harg4 arg5 harg5 arg6 harg6 arg7 harg7) fun _ =>
          iprop(owns (c : Thread nD τ) arg2 fullShare X0 ∗ owns (c : Thread nD τ) arg3 fullShare X1 ∗ owns (c : Thread nD τ) arg4 fullShare X2
            ∗ (∃ X, owns (c : Thread nD τ) arg5 fullShare X) ∗ (∃ X, owns (c : Thread nD τ) arg6 fullShare X) ∗ (∃ X, owns (c : Thread nD τ) arg7 fullShare X)) := by
  by_cases h : k0_cond1 i = 1#1
  · refine (body_first c i arg2 harg2 arg3 harg3 arg4 harg4 arg5 harg5 arg6 harg6 arg7 harg7 h X0 X1 X2 X3 X4 X5).trans (wp_mono _ _ _ fun _ => ?_)
    iintro ⟨H0, H1, H2, H3, H4, H5⟩
    isplitl [H0]; · iexact H0
    isplitl [H1]; · iexact H1
    isplitl [H2]; · iexact H2
    isplitl [H3]; · iexists _; iexact H3
    isplitl [H4]; · iexists _; iexact H4
    iexists _; iexact H5
  · refine (body_rest c i arg2 harg2 arg3 harg3 arg4 harg4 arg5 harg5 arg6 harg6 arg7 harg7 h X0 X1 X2 X3 X4 X5).trans (wp_mono _ _ _ fun _ => ?_)
    iintro ⟨H0, H1, H2, H3, H4, H5⟩
    isplitl [H0]; · iexact H0
    isplitl [H1]; · iexact H1
    isplitl [H2]; · iexact H2
    isplitl [H3]; · iexists _; iexact H3
    isplitl [H4]; · iexists _; iexact H4
    iexists _; iexact H5

theorem frame_obligation (c : Dev nD) :
    BodyObligationLoose (fdats (F := F) m 0 c) (defs₀ (F := F)) 𝒱₀ () Set.univ fgt0 := fun t => by
  rw [bigSep_W0, bigSep_W0, defs₀_row]
  simp only [fgt0]
  rw [show (fdats m 0 c).Φ t.succ = (fdats m 0 c).Φ t.castSucc from rfl, show (fdats m 0 c).owesAt () t.succ = (fdats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [fbefore_0 m c t d0, fbefore_1 m c t d1, fbefore_2 m c t d2]
  iapply (wp_wand_r Idealize.ShloMosaic.frame (wpE (defs₀ (F := F)) 𝒱₀ (c : Thread nD τ) none) Set.univ)
  isplitl [H0 H1 H2 H3 H4 H5]
  · iapply (body_any c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
      (iblk m c 0 t) (wblk m c t d1) (wsblk m c t d2) d3 d4 d5)
    isplitl [H0]; · iexact H0
    isplitl [H1]; · iexact H1
    isplitl [H2]; · iexact H2
    isplitl [H3]; · iexact H3
    isplitl [H4]; · iexact H4
    iexact H5
  iintro %_
  iintro ⟨H0, H1, H2, H3, H4, H5⟩
  isplitl [HΦ]; · iexact HΦ
  isplitl [Ho]; · iexact Ho
  isplitl [H0]; · iexact H0
  isplitl [H1]
  · iexists d1
    change _ ⊢ owns (c : Thread nD τ) (win0_1.stage (cfg0.slots t 1)) fullShare (win0_1.fill (grid0.coords t) d1 (win0_1.cut (grid0.coords t) (win0_1.fill (grid0.coords t) _ (iblk m c 1 t))))
    rw [win0_1.cut_fill]
  isplitl [H2]
  · iexists d2
    change _ ⊢ owns (c : Thread nD τ) (win0_2.stage (cfg0.slots t 2)) fullShare (win0_2.fill (grid0.coords t) d2 (win0_2.cut (grid0.coords t) (win0_2.fill (grid0.coords t) _ (iblk m c 2 t))))
    rw [win0_2.cut_fill]
  isplitl [H3]; · iexact H3
  isplitl [H4]; · iexact H4
  iexact H5

/-- What the lines after the region write: the first result's buffer. -/
theorem tail_writes : ∀ ops ∈ ([hostOps1] : List (List (HloOp τ sig (Elt F)))), ∀ op ∈ ops, ∀ b : Ref sig .tc,
    Proc.devRef .tc b ∈ op.writes → b ∈ ({main_v2} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb
  rw [Finset.mem_singleton]
  by_contra hne
  exact StableHlo.devRef_ne_of_ne hne hb

set_option backward.isDefEq.respectTransparency.types false in
/-- THE FRAME: every execution terminates, nothing faults, the arguments end as launched and every semaphore counter
    at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_T_forget cfgs (fdats m) (0 : Fin 1) launch0 defs₀ 𝒱₀ fgt0 {main_v2} m ρ main
    (hbody := frame_obligation m) (hshare := fun c => (fdats m 0 c).share_full fun _ => rfl)
    (howed := fun _ _ => rfl) (V₀ := V0 m) (opss := [hostOps1]) (hsub := sfx_sub) (hfresh := sfx_fresh) (hkeep := sfx_keeps)
    (hT := tail_writes) (hmain := hmain m 𝒱₀) (hA := fun _ _ => rfl) (hΦ := fun _ _ => rfl)
    (Q' := _) (hQ' := fun r h => ⟨fun c => ⟨(h.1.arr_in c 0 rfl).trans (V_main_arg0 m c), (h.1.arr_in c 1 rfl).trans (V_main_arg1 m c),
      ((h.1 c).2 main_arg2 (Finset.mem_sdiff.mpr ⟨Pipeline.mem_restRefs_of main_arg2 (by decide) (by decide), by decide⟩)).trans (V_main_arg2 m c)⟩, h.2⟩)

end Cert.KernelIdeal.Hand

end
-- ==== Proof.BBody.lean ====
module

public import proofs.«01_k».proof.Proof.Gen.Kernel.Skeleton
public import proofs.«01_k».proof.Proof.Gen.Kernel.Loops
public import proofs.«01_k».proof.Proof.Gen.Kernel.Frame
public import Idealize.ShloMosaic.Lib.Pipeline.TableIdle
public import Idealize.ShloMosaic.Lib.Pipeline.Value
public import Idealize.ShloMosaic.Lib.VecWindow
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernel's variants: none. -/
abbrev 𝒱₀ : Variants := Variants.none

/-- Slab `k` of a block of `x`: rows `64 k ‥ 64 k + 63`. -/
def slab (X : S1x1024x6656.Idx → Elt F .bf16) (k : ℕ) (hk : k < 16) : S1x64x6656.Idx → Elt F .bf16 := fun x =>
  X (fun | 0 => x 0 | 1 => ⟨64 * k + (x 1).val, by have : (x 1).val < 64 := (x 1).isLt; show _ < 1024; omega⟩ | 2 => x 2)

variable (c : Dev nD) (i : grid0.Coords) (arg2 : Memref sig .tc .vmem S1x1024x6656 .bf16) (harg2 : arg2.IsWhole) (arg3 : Memref sig .tc .vmem S512x6656 .fp8e4m3) (harg3 : arg3.IsWhole) (arg4 : Memref sig .tc .vmem S1x512 .f32) (harg4 : arg4.IsWhole) (arg5 : Memref sig .tc .vmem S1x128x8x512 .bf16) (harg5 : arg5.IsWhole) (arg6 : Memref sig .tc .vmem S1x1024x6656 .fp8e4m3) (harg6 : arg6.IsWhole) (arg7 : Memref sig .tc .vmem S1x1024x1 .f32) (harg7 : arg7.IsWhole)

theorem tripL_eq (k0_h1 : k0_cond1 i = 1#1) (X : BufTy.Contents (Elt F) arg2.view.ty) (k : Fin k0_t1_loop.trips) :
    tripL_k0_t1 (F := F) 𝒱₀ c none i arg2 harg2 arg3 harg3 arg4 harg4 arg5 harg5 arg6 harg6 arg7 harg7 k0_h1 X k
      = ([⟨Rect.unit (s := S1x1024x6656) (k0_off1 k) S1x64x6656.size (k0_off1_inb i k k0_h1), k0_pay6 (arg2.view.readAt (Elt F) (Rect.unit (s := S1x1024x6656) (k0_off1 k) S1x64x6656.size (k0_off1_inb i k k0_h1)).toLoadRect X)⟩],
         [⟨Rect.unit (s := S1x1024x1) (k0_off2 k) S1x64x1.size (k0_off2_inb i k k0_h1), k0_pay1 (k0_pay5 (arg2.view.readAt (Elt F) (Rect.unit (s := S1x1024x6656) (k0_off1 k) S1x64x6656.size (k0_off1_inb i k k0_h1)).toLoadRect X))⟩]) := by
  unfold tripL_k0_t1 trip_k0_t1; rfl

/-- The codes of a block of `x`: row `r` takes its slab's codes. -/
def qc (X : S1x1024x6656.Idx → Elt F .bf16) : S1x1024x6656.Idx → Elt F .fp8e4m3 := fun y =>
  k0_pay6 (slab X ((y 1).val / 64) (by have : (y 1).val < 1024 := (y 1).isLt; omega))
    (fun | 0 => y 0 | 1 => ⟨(y 1).val % 64, Nat.mod_lt _ (by decide)⟩ | 2 => y 2)

/-- The scales of a block of `x`. -/
def qs (X : S1x1024x6656.Idx → Elt F .bf16) : S1x1024x1.Idx → Elt F .f32 := fun y =>
  k0_pay1 (k0_pay5 (slab X ((y 1).val / 64) (by have : (y 1).val < 1024 := (y 1).isLt; omega)))
    (fun | 0 => y 0 | 1 => ⟨(y 1).val % 64, Nat.mod_lt _ (by decide)⟩ | 2 => y 2)

/-- `qc` at row `64 k + j` of slab `k`. -/
theorem qc_at (X : S1x1024x6656.Idx → Elt F .bf16) (y : S1x1024x6656.Idx) (x : S1x64x6656.Idx) (k : ℕ) (hk : k < 16)
    (h0 : (y 0).val = (x 0).val) (h1 : (y 1).val = 64 * k + (x 1).val) (h2 : (y 2).val = (x 2).val) :
    qc X y = k0_pay6 (slab X k hk) x := by
  have hx : (x 1).val < 64 := (x 1).isLt
  have e : (y 1).val / 64 = k := by omega
  subst e
  unfold qc
  congr 1
  funext a
  match a with
  | 0 => exact Fin.ext h0
  | 1 => exact Fin.ext (show (y 1).val % 64 = (x 1).val by omega)
  | 2 => exact Fin.ext h2

/-- `qs` at row `64 k + j` of slab `k`. -/
theorem qs_at (X : S1x1024x6656.Idx → Elt F .bf16) (y : S1x1024x1.Idx) (x : S1x64x1.Idx) (k : ℕ) (hk : k < 16)
    (h0 : (y 0).val = (x 0).val) (h1 : (y 1).val = 64 * k + (x 1).val) (h2 : (y 2).val = (x 2).val) :
    qs X y = k0_pay1 (k0_pay5 (slab X k hk)) x := by
  have hx : (x 1).val < 64 := (x 1).isLt
  have e : (y 1).val / 64 = k := by omega
  subst e
  unfold qs
  congr 1
  funext a
  match a with
  | 0 => exact Fin.ext h0
  | 1 => exact Fin.ext (show (y 1).val % 64 = (x 1).val by omega)
  | 2 => exact Fin.ext h2

/-- A trip's load of `x` reads its slab. -/
theorem readAt_slab (k0_h1 : k0_cond1 i = 1#1) (X0 : S1x1024x6656.Idx → Elt F .bf16) (k : Fin k0_t1_loop.trips) (hk : k.val < 16) :
    arg2.view.readAt (Elt F) (Rect.unit (s := S1x1024x6656) (k0_off1 k) S1x64x6656.size (k0_off1_inb i k k0_h1)).toLoadRect (arg2.view.rep X0)
      = slab X0 k.val hk := by
  rw [View.readAt_rep_unit arg2.view X0 (k0_off1_inb i k k0_h1) (k0_off1_eq k) (by rw [← k0_off1_eq k]; exact k0_off1_inb i k k0_h1)]
  funext x
  unfold VecWindow.window slab
  refine congrArg X0 (funext fun a => ?_)
  match a with
  | 0 => exact Fin.ext (by show 0 + 1 * (x 0).val = (x 0).val; omega)
  | 1 => exact Fin.ext (by show 64 * k.val + 1 * (x 1).val = 64 * k.val + (x 1).val; omega)
  | 2 => exact Fin.ext (by show 0 + 1 * (x 2).val = (x 2).val; omega)

/-- After `n` trips: every stored piece agrees with the codes and scales of the block, and the rows below `64 n`
    are covered. -/
theorem pieces (k0_h1 : k0_cond1 i = 1#1) (X0 : S1x1024x6656.Idx → Elt F .bf16) : ∀ n, n ≤ k0_t1_loop.trips →
    ((∀ p ∈ (pb_k0_t1 (F := F) 𝒱₀ c none i arg2 harg2 arg3 harg3 arg4 harg4 arg5 harg5 arg6 harg6 arg7 harg7 k0_h1 (arg2.view.rep X0) n).1, ∀ x, p.2 x = qc X0 (p.1.emb x))
      ∧ (∀ y : S1x1024x6656.Idx, (y 1).val < 64 * n → ∃ p ∈ (pb_k0_t1 (F := F) 𝒱₀ c none i arg2 harg2 arg3 harg3 arg4 harg4 arg5 harg5 arg6 harg6 arg7 harg7 k0_h1 (arg2.view.rep X0) n).1, y ∈ p.1.set))
    ∧ ((∀ p ∈ (pb_k0_t1 (F := F) 𝒱₀ c none i arg2 harg2 arg3 harg3 arg4 harg4 arg5 harg5 arg6 harg6 arg7 harg7 k0_h1 (arg2.view.rep X0) n).2, ∀ x, p.2 x = qs X0 (p.1.emb x))
      ∧ (∀ y : S1x1024x1.Idx, (y 1).val < 64 * n → ∃ p ∈ (pb_k0_t1 (F := F) 𝒱₀ c none i arg2 harg2 arg3 harg3 arg4 harg4 arg5 harg5 arg6 harg6 arg7 harg7 k0_h1 (arg2.view.rep X0) n).2, y ∈ p.1.set))
  | 0, _ => ⟨⟨fun p hp => absurd hp List.not_mem_nil, fun y hy => absurd hy (by omega)⟩, ⟨fun p hp => absurd hp List.not_mem_nil, fun y hy => absurd hy (by omega)⟩⟩
  | n + 1, hn => by
    obtain ⟨⟨hc, hcc⟩, ⟨hs, hss⟩⟩ := pieces k0_h1 X0 n (by omega)
    have hk : n < 16 := Nat.lt_of_lt_of_le hn k0_t1_abs.2.1
    have e := pb_k0_t1_succ (F := F) 𝒱₀ c none i arg2 harg2 arg3 harg3 arg4 harg4 arg5 harg5 arg6 harg6 arg7 harg7 k0_h1 (arg2.view.rep X0) ⟨n, hn⟩
    rw [tripL_eq, readAt_slab i arg2 k0_h1 X0 ⟨n, hn⟩ hk] at e
    rw [show n + 1 = (⟨n, hn⟩ : Fin k0_t1_loop.trips).val + 1 from rfl, e]
    have o1 := k0_off1_eq ⟨n, hn⟩
    have o2 := k0_off2_eq ⟨n, hn⟩
    refine ⟨⟨fun p hp x => ?_, fun y hy => ?_⟩, ⟨fun p hp x => ?_, fun y hy => ?_⟩⟩
    · rcases List.mem_cons.1 hp with rfl | hp
      · refine (qc_at X0 _ x n hk ?_ ?_ ?_).symm
        · have q : k0_off1 ⟨n, hn⟩ 0 = 0 := congrFun o1 0
          show k0_off1 ⟨n, hn⟩ 0 + 1 * (x 0).val = _; omega
        · have q : k0_off1 ⟨n, hn⟩ 1 = 64 * n := congrFun o1 1
          show k0_off1 ⟨n, hn⟩ 1 + 1 * (x 1).val = _; omega
        · have q : k0_off1 ⟨n, hn⟩ 2 = 0 := congrFun o1 2
          show k0_off1 ⟨n, hn⟩ 2 + 1 * (x 2).val = _; omega
      · exact hc p hp x
    · by_cases h : (y 1).val < 64 * n
      · obtain ⟨p, hp, hy⟩ := hcc y h
        exact ⟨p, List.mem_cons_of_mem _ hp, hy⟩
      · refine ⟨_, List.mem_cons_self, ?_⟩
        refine (Rect.mem_set_unit (inb := k0_off1_inb i ⟨n, hn⟩ k0_h1)).mpr fun a => ?_
        rw [o1]
        have b0 : (y 0).val < 1 := (y 0).isLt
        have b2 : (y 2).val < 6656 := (y 2).isLt
        have hy : (y 1).val < 64 * (n + 1) := hy
        match a with
        | 0 => show 0 ≤ (y 0).val ∧ (y 0).val < 0 + 1; omega
        | 1 => show 64 * n ≤ (y 1).val ∧ (y 1).val < 64 * n + 64; omega
        | 2 => show 0 ≤ (y 2).val ∧ (y 2).val < 0 + 6656; omega
    · rcases List.mem_cons.1 hp with rfl | hp
      · refine (qs_at X0 _ x n hk ?_ ?_ ?_).symm
        · have q : k0_off2 ⟨n, hn⟩ 0 = 0 := congrFun o2 0
          show k0_off2 ⟨n, hn⟩ 0 + 1 * (x 0).val = _; omega
        · have q : k0_off2 ⟨n, hn⟩ 1 = 64 * n := congrFun o2 1
          show k0_off2 ⟨n, hn⟩ 1 + 1 * (x 1).val = _; omega
        · have q : k0_off2 ⟨n, hn⟩ 2 = 0 := congrFun o2 2
          show k0_off2 ⟨n, hn⟩ 2 + 1 * (x 2).val = _; omega
      · exact hs p hp x
    · by_cases h : (y 1).val < 64 * n
      · obtain ⟨p, hp, hy⟩ := hss y h
        exact ⟨p, List.mem_cons_of_mem _ hp, hy⟩
      · refine ⟨_, List.mem_cons_self, ?_⟩
        refine (Rect.mem_set_unit (inb := k0_off2_inb i ⟨n, hn⟩ k0_h1)).mpr fun a => ?_
        rw [o2]
        have b0 : (y 0).val < 1 := (y 0).isLt
        have b2 : (y 2).val < 1 := (y 2).isLt
        have hy : (y 1).val < 64 * (n + 1) := hy
        match a with
        | 0 => show 0 ≤ (y 0).val ∧ (y 0).val < 0 + 1; omega
        | 1 => show 64 * n ≤ (y 1).val ∧ (y 1).val < 64 * n + 64; omega
        | 2 => show 0 ≤ (y 2).val ∧ (y 2).val < 0 + 1; omega

theorem trips_eq : Scf.trips k0_t1_loop.lb k0_t1_loop.ub k0_t1_loop.st = 16 := by decide +kernel

/-- After the loop the codes' buffer reads the block's codes. -/
theorem read_codes (k0_h1 : k0_cond1 i = 1#1) (X0 : S1x1024x6656.Idx → Elt F .bf16) (f : BufTy.Contents (Elt F) arg6.view.ty) :
    arg6.view.read (Elt F) (arg6.view.writes (Elt F) f (pb_k0_t1 (F := F) 𝒱₀ c none i arg2 harg2 arg3 harg3 arg4 harg4 arg5 harg5 arg6 harg6 arg7 harg7 k0_h1 (arg2.view.rep X0) (Scf.trips k0_t1_loop.lb k0_t1_loop.ub k0_t1_loop.st)).1) = qc X0 := by
  obtain ⟨⟨hc, hcc⟩, -⟩ := pieces c i arg2 harg2 arg3 harg3 arg4 harg4 arg5 harg5 arg6 harg6 arg7 harg7 k0_h1 X0 _ (Nat.le_refl _)
  funext y
  refine View.read_writes_apply_of_pieces arg6.view f (qc X0) _ hc y (hcc y ?_)
  have : (y 1).val < 1024 := (y 1).isLt
  rw [show k0_t1_loop.trips = 16 from trips_eq]; exact this

/-- After the loop the scales' buffer reads the block's scales. -/
theorem read_scales (k0_h1 : k0_cond1 i = 1#1) (X0 : S1x1024x6656.Idx → Elt F .bf16) (f : BufTy.Contents (Elt F) arg7.view.ty) :
    arg7.view.read (Elt F) (arg7.view.writes (Elt F) f (pb_k0_t1 (F := F) 𝒱₀ c none i arg2 harg2 arg3 harg3 arg4 harg4 arg5 harg5 arg6 harg6 arg7 harg7 k0_h1 (arg2.view.rep X0) (Scf.trips k0_t1_loop.lb k0_t1_loop.ub k0_t1_loop.st)).2) = qs X0 := by
  obtain ⟨-, ⟨hc, hcc⟩⟩ := pieces c i arg2 harg2 arg3 harg3 arg4 harg4 arg5 harg5 arg6 harg6 arg7 harg7 k0_h1 X0 _ (Nat.le_refl _)
  funext y
  refine View.read_writes_apply_of_pieces arg7.view f (qs X0) _ hc y (hcc y ?_)
  have : (y 1).val < 1024 := (y 1).isLt
  rw [show k0_t1_loop.trips = 16 from trips_eq]; exact this

/-- Window 3's buffer written whole reads what was written. -/
theorem read_whole (f : BufTy.Contents (Elt F) arg5.view.ty) (inb) (w : S1x128x8x512.Idx → Elt F .bf16) :
    arg5.view.read (Elt F) (arg5.view.writes (Elt F) f [⟨Rect.unit (s := S1x128x8x512) ![0, 0, 0, 0] S1x128x8x512.size inb, w⟩]) = w :=
  View.read_writes_full ..

/-- THE BODY at a row block's first point: codes and scales of the whole block, and the product's block. -/
theorem body_first (k0_h1 : k0_cond1 i = 1#1) (X0 : S1x1024x6656.Idx → Elt F .bf16) (X1 : S512x6656.Idx → Elt F .fp8e4m3) (X2 : S1x512.Idx → Elt F .f32)
    (X3 : S1x128x8x512.Idx → Elt F .bf16) (X4 : S1x1024x6656.Idx → Elt F .fp8e4m3) (X5 : S1x1024x1.Idx → Elt F .f32) :
    iprop(owns (c : Thread nD τ) arg2 fullShare X0 ∗ owns (c : Thread nD τ) arg3 fullShare X1 ∗ owns (c : Thread nD τ) arg4 fullShare X2
        ∗ owns (c : Thread nD τ) arg5 fullShare X3 ∗ owns (c : Thread nD τ) arg6 fullShare X4 ∗ owns (c : Thread nD τ) arg7 fullShare X5)
      ⊢ wp (M := 𝕄) frame (wpE (defs₀ (F := F)) 𝒱₀ c none) Set.univ
          (cc0__body i arg2 harg2 arg3 harg3 arg4 harg4 arg5 harg5 arg6 harg6 arg7 harg7) fun _ =>
          iprop(owns (c : Thread nD τ) arg2 fullShare X0 ∗ owns (c : Thread nD τ) arg3 fullShare X1 ∗ owns (c : Thread nD τ) arg4 fullShare X2
            ∗ owns (c : Thread nD τ) arg5 fullShare (k0_pay2 (qc X0) X1 (qs X0) X2) ∗ owns (c : Thread nD τ) arg6 fullShare (qc X0) ∗ owns (c : Thread nD τ) arg7 fullShare (qs X0)) := by
  simp only [owns_eq_rep (c : Thread nD τ) arg2, owns_eq_rep (c : Thread nD τ) arg3, owns_eq_rep (c : Thread nD τ) arg4, owns_eq_rep (c : Thread nD τ) arg5 _ X3, owns_eq_rep (c : Thread nD τ) arg6 _ X4, owns_eq_rep (c : Thread nD τ) arg7 _ X5, cc0__body_eq_skeleton]; unfold cc0__body_skel
  iintro ⟨H0, H1, H2, H3, H4, H5⟩
  sl_exec (disch := sl_exact k0_h1)
  sl_step
  isplitl [H0]; · iexact H0
  isplitl [H1]; · iexact H1
  isplitl [H2]; · iexact H2
  isplitl [H3]
  · unfold owns
    iexists _; isplitr; rotate_left; · iexact H3
    ipureintro
    rw [read_whole]
    unfold body_first.sl.v3 body_first.sl.v7
    rw [View.readAt_full, View.readAt_rep_full, View.readAt_full, View.readAt_rep_full, read_codes, read_scales]
  isplitl [H4]
  · unfold owns
    iexists _; isplitr; rotate_left; · iexact H4
    ipureintro
    exact read_codes ..
  unfold owns
  iexists _; isplitr; rotate_left; · iexact H5
  ipureintro
  exact read_scales ..

/-- THE BODY at a row block's other points: codes and scales stay, and the product's block is of them. -/
theorem body_rest (k0_h1 : ¬ k0_cond1 i = 1#1) (X0 : S1x1024x6656.Idx → Elt F .bf16) (X1 : S512x6656.Idx → Elt F .fp8e4m3) (X2 : S1x512.Idx → Elt F .f32)
    (X3 : S1x128x8x512.Idx → Elt F .bf16) (X4 : S1x1024x6656.Idx → Elt F .fp8e4m3) (X5 : S1x1024x1.Idx → Elt F .f32) :
    iprop(owns (c : Thread nD τ) arg2 fullShare X0 ∗ owns (c : Thread nD τ) arg3 fullShare X1 ∗ owns (c : Thread nD τ) arg4 fullShare X2
        ∗ owns (c : Thread nD τ) arg5 fullShare X3 ∗ owns (c : Thread nD τ) arg6 fullShare X4 ∗ owns (c : Thread nD τ) arg7 fullShare X5)
      ⊢ wp (M := 𝕄) frame (wpE (defs₀ (F := F)) 𝒱₀ c none) Set.univ
          (cc0__body i arg2 harg2 arg3 harg3 arg4 harg4 arg5 harg5 arg6 harg6 arg7 harg7) fun _ =>
          iprop(owns (c : Thread nD τ) arg2 fullShare X0 ∗ owns (c : Thread nD τ) arg3 fullShare X1 ∗ owns (c : Thread nD τ) arg4 fullShare X2
            ∗ owns (c : Thread nD τ) arg5 fullShare (k0_pay2 X4 X1 X5 X2) ∗ owns (c : Thread nD τ) arg6 fullShare X4 ∗ owns (c : Thread nD τ) arg7 fullShare X5) := by
  simp only [owns_eq_rep (c : Thread nD τ) arg2, owns_eq_rep (c : Thread nD τ) arg3, owns_eq_rep (c : Thread nD τ) arg4, owns_eq_rep (c : Thread nD τ) arg5 _ X3, owns_eq_rep (c : Thread nD τ) arg6, owns_eq_rep (c : Thread nD τ) arg7, cc0__body_eq_skeleton]; unfold cc0__body_skel
  iintro ⟨H0, H1, H2, H3, H4, H5⟩
  sl_exec (disch := sl_exact k0_h1)
  sl_step
  isplitl [H0]; · iexact H0
  isplitl [H1]; · iexact H1
  isplitl [H2]; · iexact H2
  isplitl [H3]
  · unfold owns
    iexists _; isplitr; rotate_left; · iexact H3
    ipureintro
    rw [read_whole]
    rw [View.readAt_rep_full, View.readAt_rep_full, View.readAt_rep_full, View.readAt_rep_full]
  isplitl [H4]; · iexact H4
  iexact H5

end Cert.Kernel.Hand

end
-- ==== Proof.BFrame.lean ====
module

public import proofs.«01_k».proof.Proof.BBody
public import Idealize.ShloMosaic.Lib.Pipeline.KitQuiescent

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of the weight codes at a point as the body may find it: the rows inside the array are the array's, the
    rest are `d`'s. -/
abbrev wblk (c : Dev nD) (t : Fin cfg0.N) (d : S512x6656.Idx → Elt F .fp8e4m3) : S512x6656.Idx → Elt F .fp8e4m3 :=
  win0_1.fill (grid0.coords t) d (iblk m c 1 t)
/-- The same of the weight scales. -/
abbrev wsblk (c : Dev nD) (t : Fin cfg0.N) (d : S1x512.Idx → Elt F .f32) : S1x512.Idx → Elt F .f32 :=
  win0_2.fill (grid0.coords t) d (iblk m c 2 t)

/-- The frame run's proof data: the inputs' blocks stay in place, the results' buffers are not named. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t (fun _ => Scalar.ofBits .fp8e4m3 0#8)
    | ⟨2, _⟩ => wsblk m c t (fun _ => Scalar.ofBits .f32 0#32)
    | ⟨3, _⟩ => Dat.unnamed 3 t
    | ⟨4, _⟩ => Dat.unnamed 4 t
    | ⟨5, _⟩ => Dat.unnamed 5 t
  Φ _ := Pipeline.ΦA spec0 c
  q _ := fullShare
  owed _ := 0

/-- The windows the frame run says nothing of: the results'. -/
abbrev fgt0 : Fin 6 → Bool := fun | 0 => false | 1 => false | 2 => false | _ => true

theorem fbefore_0 (c : Dev nD) (t : Fin cfg0.N) (d) : (fdats m 0 c).before 0 t d = iblk m c 0 t :=
  before0_0_of m (fdats m 0 c) rfl (fun _ => rfl) t d
theorem fbefore_1 (c : Dev nD) (t : Fin cfg0.N) (d) : (fdats m 0 c).before 1 t d = wblk m c t d := by
  unfold Dat.before; rw [if_pos (fetch0_1 t)]; rfl
theorem fbefore_2 (c : Dev nD) (t : Fin cfg0.N) (d) : (fdats m 0 c).before 2 t d = wsblk m c t d := by
  unfold Dat.before; rw [if_pos (fetch0_2 t)]; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- THE BODY at any point, what it leaves in the results' buffers unnamed. -/
theorem body_any (c : Dev nD) (i : grid0.Coords) (arg2 : Memref sig .tc .vmem S1x1024x6656 .bf16) (harg2 : arg2.IsWhole) (arg3 : Memref sig .tc .vmem S512x6656 .fp8e4m3) (harg3 : arg3.IsWhole) (arg4 : Memref sig .tc .vmem S1x512 .f32) (harg4 : arg4.IsWhole) (arg5 : Memref sig .tc .vmem S1x128x8x512 .bf16) (harg5 : arg5.IsWhole) (arg6 : Memref sig .tc .vmem S1x1024x6656 .fp8e4m3) (harg6 : arg6.IsWhole) (arg7 : Memref sig .tc .vmem S1x1024x1 .f32) (harg7 : arg7.IsWhole)
    (X0 : S1x1024x6656.Idx → Elt F .bf16) (X1 : S512x6656.Idx → Elt F .fp8e4m3) (X2 : S1x512.Idx → Elt F .f32)
    (X3 : S1x128x8x512.Idx → Elt F .bf16) (X4 : S1x1024x6656.Idx → Elt F .fp8e4m3) (X5 : S1x1024x1.Idx → Elt F .f32) :
    iprop(owns (c : Thread nD τ) arg2 fullShare X0 ∗ owns (c : Thread nD τ) arg3 fullShare X1 ∗ owns (c : Thread nD τ) arg4 fullShare X2
        ∗ owns (c : Thread nD τ) arg5 fullShare X3 ∗ owns (c : Thread nD τ) arg6 fullShare X4 ∗ owns (c : Thread nD τ) arg7 fullShare X5)
      ⊢ wp (M := 𝕄) frame (wpE (defs₀ (F := F)) 𝒱₀ c none) Set.univ
          (cc0__body i arg2 harg2 arg3 harg3 arg4 harg4 arg5 harg5 arg6 harg6 arg7 harg7) fun _ =>
          iprop(owns (c : Thread nD τ) arg2 fullShare X0 ∗ owns (c : Thread nD τ) arg3 fullShare X1 ∗ owns (c : Thread nD τ) arg4 fullShare X2
            ∗ (∃ X, owns (c : Thread nD τ) arg5 fullShare X) ∗ (∃ X, owns (c : Thread nD τ) arg6 fullShare X) ∗ (∃ X, owns (c : Thread nD τ) arg7 fullShare X)) := by
  by_cases h : k0_cond1 i = 1#1
  · refine (body_first c i arg2 harg2 arg3 harg3 arg4 harg4 arg5 harg5 arg6 harg6 arg7 harg7 h X0 X1 X2 X3 X4 X5).trans (wp_mono _ _ _ fun _ => ?_)
    iintro ⟨H0, H1, H2, H3, H4, H5⟩
    isplitl [H0]; · iexact H0
    isplitl [H1]; · iexact H1
    isplitl [H2]; · iexact H2
    isplitl [H3]; · iexists _; iexact H3
    isplitl [H4]; · iexists _; iexact H4
    iexists _; iexact H5
  · refine (body_rest c i arg2 harg2 arg3 harg3 arg4 harg4 arg5 harg5 arg6 harg6 arg7 harg7 h X0 X1 X2 X3 X4 X5).trans (wp_mono _ _ _ fun _ => ?_)
    iintro ⟨H0, H1, H2, H3, H4, H5⟩
    isplitl [H0]; · iexact H0
    isplitl [H1]; · iexact H1
    isplitl [H2]; · iexact H2
    isplitl [H3]; · iexists _; iexact H3
    isplitl [H4]; · iexists _; iexact H4
    iexists _; iexact H5

theorem frame_obligation (c : Dev nD) :
    BodyObligationLoose (fdats (F := F) m 0 c) (defs₀ (F := F)) 𝒱₀ () Set.univ fgt0 := fun t => by
  rw [bigSep_W0, bigSep_W0, defs₀_row]
  simp only [fgt0]
  rw [show (fdats m 0 c).Φ t.succ = (fdats m 0 c).Φ t.castSucc from rfl, show (fdats m 0 c).owesAt () t.succ = (fdats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [fbefore_0 m c t d0, fbefore_1 m c t d1, fbefore_2 m c t d2]
  iapply (wp_wand_r Idealize.ShloMosaic.frame (wpE (defs₀ (F := F)) 𝒱₀ (c : Thread nD τ) none) Set.univ)
  isplitl [H0 H1 H2 H3 H4 H5]
  · iapply (body_any c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
      (iblk m c 0 t) (wblk m c t d1) (wsblk m c t d2) d3 d4 d5)
    isplitl [H0]; · iexact H0
    isplitl [H1]; · iexact H1
    isplitl [H2]; · iexact H2
    isplitl [H3]; · iexact H3
    isplitl [H4]; · iexact H4
    iexact H5
  iintro %_
  iintro ⟨H0, H1, H2, H3, H4, H5⟩
  isplitl [HΦ]; · iexact HΦ
  isplitl [Ho]; · iexact Ho
  isplitl [H0]; · iexact H0
  isplitl [H1]
  · iexists d1
    change _ ⊢ owns (c : Thread nD τ) (win0_1.stage (cfg0.slots t 1)) fullShare (win0_1.fill (grid0.coords t) d1 (win0_1.cut (grid0.coords t) (win0_1.fill (grid0.coords t) _ (iblk m c 1 t))))
    rw [win0_1.cut_fill]
  isplitl [H2]
  · iexists d2
    change _ ⊢ owns (c : Thread nD τ) (win0_2.stage (cfg0.slots t 2)) fullShare (win0_2.fill (grid0.coords t) d2 (win0_2.cut (grid0.coords t) (win0_2.fill (grid0.coords t) _ (iblk m c 2 t))))
    rw [win0_2.cut_fill]
  isplitl [H3]; · iexact H3
  isplitl [H4]; · iexact H4
  iexact H5

/-- What the lines after the region write: the first result's buffer. -/
theorem tail_writes : ∀ ops ∈ ([hostOps1] : List (List (HloOp τ sig (Elt F)))), ∀ op ∈ ops, ∀ b : Ref sig .tc,
    Proc.devRef .tc b ∈ op.writes → b ∈ ({main_v2} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb
  rw [Finset.mem_singleton]
  by_contra hne
  exact StableHlo.devRef_ne_of_ne hne hb

set_option backward.isDefEq.respectTransparency.types false in
/-- THE FRAME: every execution terminates, nothing faults, the arguments end as launched and every semaphore counter
    at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_T_forget cfgs (fdats m) (0 : Fin 1) launch0 defs₀ 𝒱₀ fgt0 {main_v2} m ρ main
    (hbody := frame_obligation m) (hshare := fun c => (fdats m 0 c).share_full fun _ => rfl)
    (howed := fun _ _ => rfl) (V₀ := V0 m) (opss := [hostOps1]) (hsub := sfx_sub) (hfresh := sfx_fresh) (hkeep := sfx_keeps)
    (hT := tail_writes) (hmain := hmain m 𝒱₀) (hA := fun _ _ => rfl) (hΦ := fun _ _ => rfl)
    (Q' := _) (hQ' := fun r h => ⟨fun c => ⟨(h.1.arr_in c 0 rfl).trans (V_main_arg0 m c), (h.1.arr_in c 1 rfl).trans (V_main_arg1 m c),
      ((h.1 c).2 main_arg2 (Finset.mem_sdiff.mpr ⟨Pipeline.mem_restRefs_of main_arg2 (by decide) (by decide), by decide⟩)).trans (V_main_arg2 m c)⟩, h.2⟩)

end Cert.Kernel.Hand

end
-- ==== Proof.KBlocks.lean ====
module

public import proofs.«01_k».proof.Proof.KFrame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.ShloMosaic.Pipeline (Dat Cfg Window)

variable {F : FTy → Type} [FloatOps F]
variable (m : (ℓ : Loc nD τ sig) → Buf (Elt F) ℓ)

/-! Each window's block index at a point: the point is `24 i + j` with `i = 3 b + r`. -/
theorem ix_0 : ∀ t : Fin cfg0.N, win0_0.index t = ![t.val / 72, t.val / 24 % 3, 0] := (by decide +kernel : ∀ t : Fin grid0.N, _)
theorem ix_1 : ∀ t : Fin cfg0.N, win0_1.index t = ![t.val % 24, 0] := (by decide +kernel : ∀ t : Fin grid0.N, _)
theorem ix_2 : ∀ t : Fin cfg0.N, win0_2.index t = ![0, t.val % 24] := (by decide +kernel : ∀ t : Fin grid0.N, _)
theorem ix_3 : ∀ t : Fin cfg0.N, win0_3.index t = ![t.val / 72, t.val / 24 % 3, 0, t.val % 24] := (by decide +kernel : ∀ t : Fin grid0.N, _)
theorem ix_4 : ∀ t : Fin cfg0.N, win0_4.index t = ![t.val / 72, t.val / 24 % 3, 0] := (by decide +kernel : ∀ t : Fin grid0.N, _)
theorem ix_5 : ∀ t : Fin cfg0.N, win0_5.index t = ![t.val / 72, t.val / 24 % 3, 0] := (by decide +kernel : ∀ t : Fin grid0.N, _)

/-! The sizes moved by the clipped windows at a point. -/
theorem xs_1 : ∀ t : Fin cfg0.N, win0_1.xsize (grid0.coords t) 0 = min 512 (12032 - 512 * (t.val % 24)) ∧ win0_1.xsize (grid0.coords t) 1 = 6656 :=
  (by decide +kernel : ∀ t : Fin grid0.N, _)
theorem xs_2 : ∀ t : Fin cfg0.N, win0_2.xsize (grid0.coords t) 0 = 1 ∧ win0_2.xsize (grid0.coords t) 1 = min 512 (12032 - 512 * (t.val % 24)) :=
  (by decide +kernel : ∀ t : Fin grid0.N, _)
theorem xs_3 : ∀ t : Fin cfg0.N, win0_3.xsize (grid0.coords t) 3 = min 512 (12032 - 512 * (t.val % 24)) :=
  (by decide +kernel : ∀ t : Fin grid0.N, _)

/-- A weight row of a point's block that lies in the array is the array's, whatever the buffer held. -/
theorem wblk_apply (c : Dev nD) (t : Fin cfg0.N) (d) (q : Fin 512) (k : Fin 6656) (Q : Fin 12032) (hQ : Q.val = 512 * (t.val % 24) + q.val) :
    wblk m c t d (ix2 q k) = V m c main_arg1 (ix2 Q k) := by
  have hx := xs_1 t
  have hq := q.isLt
  have hQ' := Q.isLt
  have h : ∀ a, ((ix2 q k : S512x6656.Idx) a).val < win0_1.xsize (grid0.coords t) a := fun a => by
    match a with
    | ⟨0, _⟩ =>
      show q.val < win0_1.xsize (grid0.coords t) 0
      rw [hx.1]; omega
    | ⟨1, _⟩ =>
      show k.val < win0_1.xsize (grid0.coords t) 1
      rw [hx.2]; exact k.isLt
  refine (win0_1.fill_xinj (grid0.coords t) d (iblk m c 1 t) (fun a => ⟨((ix2 q k : S512x6656.Idx) a).val, h a⟩)).trans ?_
  have e := ix_1 t
  blk_simp [iblk]
  refine congrArg (V m c main_arg1) (funext fun a => Fin.ext ?_)
  match a with
  | ⟨0, _⟩ => blk_simp [e]; show t.val % 24 * 512 + q.val = Q.val; omega
  | ⟨1, _⟩ => blk_simp [e]

/-- A weight scale of a point's block that lies in the array is the array's. -/
theorem wsblk_apply (c : Dev nD) (t : Fin cfg0.N) (d) (q : Fin 512) (Q : Fin 12032) (hQ : Q.val = 512 * (t.val % 24) + q.val) :
    wsblk m c t d (ix2 0 q) = V m c main_v0 (ix2 0 Q) := by
  have hx := xs_2 t
  have hq := q.isLt
  have hQ' := Q.isLt
  have h : ∀ a, ((ix2 0 q : S1x512.Idx) a).val < win0_2.xsize (grid0.coords t) a := fun a => by
    match a with
    | ⟨0, _⟩ =>
      show 0 < win0_2.xsize (grid0.coords t) 0
      rw [hx.1]; omega
    | ⟨1, _⟩ =>
      show q.val < win0_2.xsize (grid0.coords t) 1
      rw [hx.2]; omega
  refine (win0_2.fill_xinj (grid0.coords t) d (iblk m c 2 t) (fun a => ⟨((ix2 0 q : S1x512.Idx) a).val, h a⟩)).trans ?_
  have e := ix_2 t
  blk_simp [iblk]
  refine congrArg (V m c main_v0) (funext fun a => Fin.ext ?_)
  match a with
  | ⟨0, _⟩ => blk_simp [e]
  | ⟨1, _⟩ => blk_simp [e]; show t.val % 24 * 512 + q.val = Q.val; omega

/-- A point's block of the activation is the array's rows. -/
theorem iblk0_apply (c : Dev nD) (t : Fin cfg0.N) (p : Fin 1024) (k : Fin 6656) (b : Fin 8) (r : Fin 3072)
    (hb : b.val = t.val / 72) (hr : r.val = 1024 * (t.val / 24 % 3) + p.val) :
    iblk m c 0 t (ix3 0 p k) = V m c main_arg0 (ix3 b r k) := by
  have e := ix_0 t
  blk_simp [iblk]
  refine congrArg (V m c main_arg0) (funext fun a => Fin.ext ?_)
  match a with
  | ⟨0, _⟩ => blk_simp [e]; show t.val / 72 + 0 = b.val; omega
  | ⟨1, _⟩ => blk_simp [e]; show t.val / 24 % 3 * 1024 + p.val = r.val; omega
  | ⟨2, _⟩ => blk_simp [e]

/-- The activation's block does not move along a row of the grid. -/
theorem iblk0_prev (c : Dev nD) (t s : Fin cfg0.N) (h : s.val / 24 = t.val / 24) : iblk m c 0 s = iblk m c 0 t := by
  have h72 : s.val / 72 = t.val / 72 := by omega
  funext y
  have ht := ix_0 t
  have hs := ix_0 s
  blk_simp [iblk]
  refine congrArg (V m c main_arg0) (funext fun a => Fin.ext ?_)
  match a with
  | ⟨0, _⟩ => blk_simp [ht, hs, h72]
  | ⟨1, _⟩ => blk_simp [ht, hs, h]
  | ⟨2, _⟩ => blk_simp [ht, hs]

end Cert.KernelIdeal.Hand

end
-- ==== Proof.KRead.lean ====
module

public import Idealize.ShloMosaic.Lib.Pointwise
public import Idealize.ShloMosaic.Lib.Pipeline.Value

@[expose] public section

noncomputable section

namespace Cert.Own

open Idealize.ShloMosaic

/-- The maximum over the last axis of a matrix, at a row: the fold of `max` over the row. -/
theorem max_rows2 {A B : ℕ} {φ : FTy} (v : FVec Ideal ⟨2, ![A, B]⟩ φ) (acc : BitVec φ.bits)
    (h : (⟨2, ![A, B]⟩ : Shape).Reduces [1] ⟨1, ![A]⟩) (hφ : FKind.Formats φ) (hacc : acc = FKind.maximumf.neutral φ hφ)
    (j : (⟨1, ![A]⟩ : Shape).Idx) (r : Fin A) (hr : (j 0).val = r.val) :
    multiReduction .maximumf [1] ⟨1, ![A]⟩ v acc h hφ hacc j
      = (Finset.univ : Finset (Fin B)).fold max (FloatOps.ofBits (F := Ideal) φ acc) fun k => v (ix2 r k) := by
  rw [Ideal.multiReduction_maximumf_single]
  refine congrArg (fun f => (Finset.univ : Finset (Fin B)).fold max (FloatOps.ofBits (F := Ideal) φ acc) f) (funext fun k => congrArg v (funext fun a => Fin.ext ?_))
  match a with
  | ⟨0, _⟩ => exact hr
  | ⟨1, _⟩ => rfl

/-- The same over the last axis of a rank-3 array. -/
theorem max_rows3 {A B C : ℕ} {φ : FTy} (v : FVec Ideal ⟨3, ![A, B, C]⟩ φ) (acc : BitVec φ.bits)
    (h : (⟨3, ![A, B, C]⟩ : Shape).Reduces [2] ⟨2, ![A, B]⟩) (hφ : FKind.Formats φ) (hacc : acc = FKind.maximumf.neutral φ hφ)
    (j : (⟨2, ![A, B]⟩ : Shape).Idx) (r : Fin A) (s : Fin B) (hr : (j 0).val = r.val) (hs : (j 1).val = s.val) :
    multiReduction .maximumf [2] ⟨2, ![A, B]⟩ v acc h hφ hacc j
      = (Finset.univ : Finset (Fin C)).fold max (FloatOps.ofBits (F := Ideal) φ acc) fun k => v (ix3 r s k) := by
  rw [Ideal.multiReduction_maximumf_single]
  refine congrArg (fun f => (Finset.univ : Finset (Fin C)).fold max (FloatOps.ofBits (F := Ideal) φ acc) f) (funext fun k => congrArg v (funext fun a => Fin.ext ?_))
  match a with
  | ⟨0, _⟩ => exact hr
  | ⟨1, _⟩ => exact hs
  | ⟨2, _⟩ => rfl

/-- Minus infinity's pattern in both formats. -/
theorem ninf_f32 : FloatOps.ofBits (F := Ideal) .f32 0xFF800000#32 = ⊥ := by
  show Ideal.ofBits .f32 _ = _
  simp [Ideal.ofBits, Ideal.ieee]
theorem ninf_bf16 : FloatOps.ofBits (F := Ideal) .bf16 0xFF80#16 = ⊥ := by
  show Ideal.ofBits .bf16 _ = _
  simp [Ideal.ofBits, Ideal.ieee]

/-- The largest magnitude of a row of the activation, over the extended reals. -/
def rmax (f : Fin 6656 → EReal) : EReal := (Finset.univ : Finset (Fin 6656)).fold max ⊥ fun k => max (f k) (-(f k))
/-- The exponent's arithmetic over named constants: `o` more than the floor of `log (a · c) / l`, and `z` where `a` is `z`. -/
def expForm (a c l o z : EReal) : EReal :=
  Scalar.select (FloatOps.cmpf (F := Ideal) (φ := .f32) .oeq a z) z
    (FloatOps.addf (F := Ideal) (φ := .f32) (FloatOps.floor (F := Ideal) (φ := .f32)
      (FloatOps.divf (F := Ideal) (φ := .f32) (FloatOps.log (F := Ideal) (φ := .f32) (FloatOps.mulf (F := Ideal) (φ := .f32) a c)) l)) o)
/-- The exponent of the scale of a row whose largest magnitude is `a`: one more than the floor of `log₂ (a / 448)`, zero
    for a row of zeros. -/
def expOf (a : EReal) : EReal :=
  expForm a (Scalar.ofBits (F := Ideal) .f32 0x3B124925#32) (Scalar.log (F := Ideal) (φ := .f32) (Scalar.ofBits (F := Ideal) .f32 0x40000000#32))
    (Scalar.ofBits (F := Ideal) .f32 0x3F800000#32) (Scalar.ofBits (F := Ideal) .f32 0x00000000#32)
/-- A row's scale: two to its exponent. -/
def rscale (f : Fin 6656 → EReal) : EReal := Ideal.exp2 (expOf (rmax f))
/-- The code's arithmetic over named constants: `x · 2^(z - e)` clipped between `lo` and `hi`. -/
def codeForm (x e lo hi z : EReal) : EReal := min hi (max lo (x * Ideal.exp2 (z - e)))
/-- The code of an element `x` at the exponent `e`: `x · 2^(-e)` clipped to `±448`. -/
def codeOf (x e : EReal) : EReal :=
  codeForm x e (Scalar.ofBits (F := Ideal) .f32 0xC3E00000#32) (Scalar.ofBits (F := Ideal) .f32 0x43E00000#32) (Scalar.ofBits (F := Ideal) .f32 0x00000000#32)
/-- A row's code at a column. -/
def rcode (f : Fin 6656 → EReal) (k : Fin 6656) : EReal := codeOf (f k) (expOf (rmax f))

/-- A result's element: the row's codes against a weight row, times the row's scale, times the weight row's scale. -/
def rdot (f w : Fin 6656 → EReal) (s : EReal) : EReal := (∑ k, rcode f k * w k) * rscale f * s

/-- Powers of two, elementwise. -/
theorem exp2_at {s : Shape} {φ : FTy} (E : FVec Ideal s φ) (j : s.Idx) : exp2 E j = Ideal.exp2 (E j) := rfl

end Cert.Own

end
-- ==== Proof.KPay.lean ====
module

public import proofs.«01_k».proof.Proof.Gen.KernelIdeal.Skeleton
public import proofs.«01_k».proof.Proof.KRead

@[expose] public section

set_option maxRecDepth 16384

noncomputable section

namespace Cert.Own

open Idealize.ShloMosaic

section Kernel
open Cert.KernelIdeal Cert.KernelIdeal.Gen

/-- A row of a slab is that row of the slab with its leading unit axis dropped. -/
theorem kpay3_apply (X : Vec Ideal S1x64x6656 .bf16) (r : Fin 64) (k : Fin 6656) :
    k0_pay3 X (ix2 r k) = X (ix3 0 r k) := by
  unfold k0_pay3
  refine shapeCast_apply _ _ _ _ ?_
  rw [Shape.rowMajor_val_three, Shape.rowMajor_val_two]
  show ((0 : ℕ) * 64 + r.val) * 6656 + k.val = r.val * 6656 + k.val
  omega

/-- The kernel's vector arithmetic for the exponents, at an index, is `expForm` there. -/
theorem kexp_form (M : FVec Ideal S64x1 .bf16) (c l o z : EReal) (y : S64x1.Idx) :
    select (cmpf .oeq (extf .f32 M bitsLt_bf16_f32) (broadcast S64x1 z)) (broadcast S64x1 z)
      (addf (floor (divf (log (mulf (extf .f32 M bitsLt_bf16_f32) (broadcast S64x1 c))) (broadcast S64x1 l))) (broadcast S64x1 o)) y = expForm (M y) c l o z := rfl

/-- The exponents of a slab's rows are `expOf` of the rows' largest magnitudes, as the kernel takes them. -/
theorem kpay4_tree (X : Vec Ideal S1x64x6656 .bf16) (y : S64x1.Idx) :
    k0_pay4 X y = expOf (shapeCast S64x1 (multiReduction .maximumf [1] S64 (absf (k0_pay3 X)) 0xFF80#16 reduces_S64x6656_S64 (.inr rfl) rfl) shapeCasts_S64_S64x1 y) := by
  unfold k0_pay4 expOf
  exact kexp_form (shapeCast S64x1 (multiReduction .maximumf [1] S64 (absf (k0_pay3 X)) 0xFF80#16 reduces_S64x6656_S64 (.inr rfl) rfl) shapeCasts_S64_S64x1) _ _ _ _ y

/-- The exponent of a slab's row. -/
theorem kpay4_apply (X : Vec Ideal S1x64x6656 .bf16) (y : S64x1.Idx) (r : Fin 64) (hr : (y 0).val = r.val) :
    k0_pay4 X y = expOf (rmax fun k => X (ix3 0 r k)) := by
  rw [kpay4_tree]
  refine congrArg expOf ?_
  rw [shapeCast_apply _ _ y (ix1 r) (by
    rw [Shape.rowMajor_val_one, Shape.rowMajor_val_two]
    have h1 : (y 1).val < 1 := (y 1).isLt
    show r.val = (y 0).val * 1 + (y 1).val
    omega)]
  refine (max_rows2 (A := 64) (B := 6656) (absf (k0_pay3 X)) 0xFF80#16 reduces_S64x6656_S64 (.inr rfl) rfl (ix1 r) r rfl).trans ?_
  rw [ninf_bf16]
  unfold rmax
  refine congrArg (fun f => (Finset.univ : Finset (Fin 6656)).fold max ⊥ f) (funext fun k => ?_)
  show max (k0_pay3 X (ix2 r k)) (-(k0_pay3 X (ix2 r k))) = _
  rw [kpay3_apply]

/-- The scale of a slab's row. -/
theorem kpay5_apply (X : Vec Ideal S1x64x6656 .bf16) (y : S1x64x1.Idx) (r : Fin 64) (hr : (y 1).val = r.val) :
    k0_pay1 (k0_pay5 X) y = rscale fun k => X (ix3 0 r k) := by
  unfold k0_pay1
  rw [shapeCast_apply _ _ y (ix2 r 0) (by
    rw [Shape.rowMajor_val_two, Shape.rowMajor_val_three]
    have h0 : (y 0).val < 1 := (y 0).isLt
    have h2 : (y 2).val < 1 := (y 2).isLt
    show r.val * 1 + 0 = ((y 0).val * 64 + (y 1).val) * 1 + (y 2).val
    omega)]
  have q : k0_pay4 X (ix2 r 0) = expOf (rmax fun k => X (ix3 0 r k)) := kpay4_apply X (ix2 r 0) r (Eq.refl r.val)
  exact (exp2_at (k0_pay4 X) (ix2 r 0)).trans (congrArg Ideal.exp2 q)

/-- The kernel's vector arithmetic for the codes, at an index, is `codeForm` there. -/
theorem kcode_form (Y : FVec Ideal S64x6656 .bf16) (E : FVec Ideal S64x1 .f32) (lo hi z : EReal) (r : Fin 64) (k : Fin 6656) :
    (truncf .fp8e4m3 (minimumf (broadcast S64x6656 (Scalar.truncf (F := Ideal) .bf16 bitsLt_bf16_f32 hi))
      (maximumf (broadcast S64x6656 (Scalar.truncf (F := Ideal) .bf16 bitsLt_bf16_f32 lo))
        (mulf Y (broadcastTo S64x6656 (truncf .bf16 (exp2 (subf (broadcast S64x1 z) E)) bitsLt_bf16_f32) broadcasts_S64x1_S64x6656)))) bitsLt_fp8e4m3_bf16 : FVec Ideal S64x6656 .fp8e4m3) (ix2 r k)
      = codeForm (Y (ix2 r k)) (E (ix2 r 0)) lo hi z := by
  have e : ∀ Z : FVec Ideal S64x6656 .bf16, Z (ix2 r k) = Ideal.exp2 (z - E (ix2 r 0)) →
      (truncf .fp8e4m3 (minimumf (broadcast S64x6656 (Scalar.truncf (F := Ideal) .bf16 bitsLt_bf16_f32 hi))
        (maximumf (broadcast S64x6656 (Scalar.truncf (F := Ideal) .bf16 bitsLt_bf16_f32 lo)) (mulf Y Z))) bitsLt_fp8e4m3_bf16 : FVec Ideal S64x6656 .fp8e4m3) (ix2 r k)
        = codeForm (Y (ix2 r k)) (E (ix2 r 0)) lo hi z := fun Z h => by
    unfold codeForm
    rw [← h]
    rfl
  refine e _ ?_
  rw [broadcastTo_apply _ _ (ix2 r k) (ix2 r 0) (fun a => by
      match a with
      | ⟨0, _⟩ => rfl
      | ⟨1, _⟩ => rfl)]
  rfl

/-- The code of a slab's element. -/
theorem kpay6_apply (X : Vec Ideal S1x64x6656 .bf16) (y : S1x64x6656.Idx) (r : Fin 64) (k : Fin 6656) (hr : (y 1).val = r.val) (hk : (y 2).val = k.val) :
    k0_pay6 X y = rcode (fun k => X (ix3 0 r k)) k := by
  unfold k0_pay6
  rw [shapeCast_apply _ _ y (ix2 r k) (by
    rw [Shape.rowMajor_val_two, Shape.rowMajor_val_three]
    have h0 : (y 0).val < 1 := (y 0).isLt
    show r.val * 6656 + k.val = ((y 0).val * 64 + (y 1).val) * 6656 + (y 2).val
    omega)]
  have q : k0_pay4 X (ix2 r 0) = expOf (rmax fun k => X (ix3 0 r k)) := kpay4_apply X (ix2 r 0) r (Eq.refl r.val)
  unfold rcode codeOf
  rw [← q]
  refine (kcode_form (k0_pay3 X) (k0_pay4 X) _ _ _ r k).trans ?_
  exact congrArg (fun x => codeForm x _ _ _ _) (kpay3_apply X r k)

end Kernel

end Cert.Own

end
-- ==== Proof.KPay2.lean ====
module

public import proofs.«01_k».proof.Proof.Gen.KernelIdeal.Skeleton
public import proofs.«01_k».proof.Proof.KRead

@[expose] public section

set_option maxRecDepth 16384

noncomputable section

namespace Cert.Own

open Idealize.ShloMosaic

section Kernel
open Cert.KernelIdeal Cert.KernelIdeal.Gen

/-- The product of a block of codes and a block of weights, at an element. -/
theorem kdot_apply (C : Vec Ideal S1024x6656 .fp8e4m3) (W : Vec Ideal S512x6656 .fp8e4m3) (p : Fin 1024) (q : Fin 512) :
    (matmul (φ₁ := .fp8e4m3) (φ₂ := .fp8e4m3) dot_S1024x6656_S512x6656_S1024x512_1_1_0_0_n_n none C W (constant S1024x512 .f32 0x00000000#32) : FVec Ideal S1024x512 .f32) (ix2 p q)
      = ∑ k : Fin 6656, C (ix2 p k) * W (ix2 q k) := by
  refine (Ideal.matmul_apply₁_of dot_S1024x6656_S512x6656_S1024x512_1_1_0_0_n_n rfl rfl C W _ (ix2 p q) (fun k => ix2 p k) (fun k => ix2 q k)
    (fun k => by funext a; match a with | ⟨0, _⟩ => rfl | ⟨1, _⟩ => rfl)
    (fun k => by funext a; match a with | ⟨0, _⟩ => rfl | ⟨1, _⟩ => rfl)).trans ?_
  show Ideal.ofBits .f32 0x00000000#32 + _ = _
  rw [Ideal.ofBits_zero_f32, zero_add]
  rfl

/-- The scaled product at an element of the block stored. -/
theorem kpay2_apply (C : Vec Ideal S1x1024x6656 .fp8e4m3) (W : Vec Ideal S512x6656 .fp8e4m3) (S : Vec Ideal S1x1024x1 .f32) (Z : Vec Ideal S1x512 .f32)
    (y : S1x128x8x512.Idx) (p : Fin 1024) (q : Fin 512) (hp : (y 1).val * 8 + (y 2).val = p.val) (hq : (y 3).val = q.val) :
    k0_pay2 C W S Z y = (∑ k : Fin 6656, C (ix3 0 p k) * W (ix2 q k)) * S (ix3 0 p 0) * Z (ix2 0 q) := by
  unfold k0_pay2
  have h0 : (y 0).val < 1 := (y 0).isLt
  have h2 : (y 2).val < 8 := (y 2).isLt
  have h1 : (y 1).val < 128 := (y 1).isLt
  rw [shapeCast_apply _ _ y (ix3 (⟨(y 1).val, h1⟩ : Fin 128) (⟨(y 2).val, h2⟩ : Fin 8) q) (by
    rw [Shape.rowMajor_val_three, Shape.rowMajor_val_four]
    show ((y 1).val * 8 + (y 2).val) * 512 + q.val = (((y 0).val * 128 + (y 1).val) * 8 + (y 2).val) * 512 + (y 3).val
    omega)]
  rw [shapeCast_apply _ _ (ix3 (⟨(y 1).val, h1⟩ : Fin 128) (⟨(y 2).val, h2⟩ : Fin 8) q) (ix2 p q) (by
    rw [Shape.rowMajor_val_three, Shape.rowMajor_val_two]
    show p.val * 512 + q.val = ((y 1).val * 8 + (y 2).val) * 512 + q.val
    omega)]
  have hC : ∀ k : Fin 6656, (shapeCast S1024x6656 C shapeCasts_S1x1024x6656_S1024x6656 : FVec Ideal S1024x6656 .fp8e4m3) (ix2 p k) = C (ix3 0 p k) := fun k => by
    refine shapeCast_apply _ _ _ _ ?_
    rw [Shape.rowMajor_val_three, Shape.rowMajor_val_two]
    show ((0 : ℕ) * 1024 + p.val) * 6656 + k.val = p.val * 6656 + k.val
    omega
  have hS : (broadcastTo S1024x512 (shapeCast S1024x1 S shapeCasts_S1x1024x1_S1024x1 : FVec Ideal S1024x1 .f32) broadcasts_S1024x1_S1024x512 : FVec Ideal S1024x512 .f32) (ix2 p q) = S (ix3 0 p 0) := by
    rw [broadcastTo_apply _ _ (ix2 p q) (ix2 p 0) (fun a => by
      match a with
      | ⟨0, _⟩ => rfl
      | ⟨1, _⟩ => rfl)]
    refine shapeCast_apply _ _ _ _ ?_
    rw [Shape.rowMajor_val_three, Shape.rowMajor_val_two]
    show ((0 : ℕ) * 1024 + p.val) * 1 + 0 = p.val * 1 + 0
    omega
  have hZ : (broadcastTo S1024x512 (shapeCast S1x512 Z shapeCasts_S1x512_S1x512 : FVec Ideal S1x512 .f32) broadcasts_S1x512_S1024x512 : FVec Ideal S1024x512 .f32) (ix2 p q) = Z (ix2 0 q) := by
    rw [broadcastTo_apply _ _ (ix2 p q) (ix2 0 q) (fun a => by
      match a with
      | ⟨0, _⟩ => rfl
      | ⟨1, _⟩ => rfl)]
    exact shapeCast_apply _ _ _ _ rfl
  have hD := (kdot_apply (shapeCast S1024x6656 C shapeCasts_S1x1024x6656_S1024x6656) W p q).trans (Finset.sum_congr rfl fun k _ => by rw [hC k])
  rw [← hD, ← hS, ← hZ]
  generalize (matmul (φ₁ := .fp8e4m3) (φ₂ := .fp8e4m3) dot_S1024x6656_S512x6656_S1024x512_1_1_0_0_n_n none (shapeCast S1024x6656 C shapeCasts_S1x1024x6656_S1024x6656) W (constant S1024x512 .f32 0x00000000#32) : FVec Ideal S1024x512 .f32) = D
  rfl

end Kernel

end Cert.Own

end
-- ==== Proof.KRows.lean ====
module

public import proofs.«01_k».proof.Proof.KBlocks
public import proofs.«01_k».proof.Proof.KPay
public import proofs.«01_k».proof.Proof.KPay2

@[expose] public section

set_option maxRecDepth 16384

noncomputable section

namespace Cert.KernelIdeal.Hand

open Cert.KernelIdeal Cert.KernelIdeal.Gen Cert.Own
open Idealize.ShloMosaic Idealize.ShloMosaic.TcCoe Idealize.ShloMosaic.Tactic
open Idealize.SL Idealize.SL.RA
open Idealize.ShloMosaic.Pipeline (Dat Cfg Window)

/-- A slab's row is the block's row. -/
theorem slab_row (X : S1x1024x6656.Idx → Elt Ideal .bf16) (n : ℕ) (hn : n < 16) (j : Fin 64) (p : Fin 1024) (h : p.val = 64 * n + j.val) :
    (fun k : Fin 6656 => slab X n hn (ix3 0 j k)) = fun k => X (ix3 0 p k) := by
  funext k
  unfold slab
  refine congrArg X (funext fun a => Fin.ext ?_)
  match a with
  | ⟨0, _⟩ => rfl
  | ⟨1, _⟩ => exact h.symm
  | ⟨2, _⟩ => rfl

/-- A block's codes are its rows' codes. -/
theorem qc_row (X : S1x1024x6656.Idx → Elt Ideal .bf16) (y : S1x1024x6656.Idx) (p : Fin 1024) (k : Fin 6656) (hp : (y 1).val = p.val) (hk : (y 2).val = k.val) :
    qc X y = rcode (fun k => X (ix3 0 p k)) k := by
  have h0 : (y 0).val < 1 := (y 0).isLt
  have hlt := p.isLt
  have h16 : p.val / 64 < 16 := by omega
  have h64 : p.val % 64 < 64 := Nat.mod_lt _ (by decide)
  have hd : p.val = 64 * (p.val / 64) + p.val % 64 := by omega
  rw [qc_at X y (ix3 0 (⟨p.val % 64, h64⟩ : Fin 64) k) (p.val / 64) h16 (by show (y 0).val = 0; omega) (hp.trans hd) hk]
  rw [kpay6_apply _ _ ⟨p.val % 64, h64⟩ k rfl rfl, slab_row X _ h16 ⟨p.val % 64, h64⟩ p hd]

/-- A block's scales are its rows' scales. -/
theorem qs_row (X : S1x1024x6656.Idx → Elt Ideal .bf16) (y : S1x1024x1.Idx) (p : Fin 1024) (hp : (y 1).val = p.val) :
    qs X y = rscale fun k => X (ix3 0 p k) := by
  have h0 : (y 0).val < 1 := (y 0).isLt
  have h2 : (y 2).val < 1 := (y 2).isLt
  have hlt := p.isLt
  have h16 : p.val / 64 < 16 := by omega
  have h64 : p.val % 64 < 64 := Nat.mod_lt _ (by decide)
  have hd : p.val = 64 * (p.val / 64) + p.val % 64 := by omega
  rw [qs_at X y (ix3 0 (⟨p.val % 64, h64⟩ : Fin 64) 0) (p.val / 64) h16 (by show (y 0).val = 0; omega) (hp.trans hd) (by show (y 2).val = 0; omega)]
  rw [kpay5_apply _ _ ⟨p.val % 64, h64⟩ rfl, slab_row X _ h16 ⟨p.val % 64, h64⟩ p hd]

variable (m : (ℓ : Loc nD τ sig) → Buf (Elt Ideal) ℓ)

/-- The products' array in closed form, over the arrays at the region's entry: rows in groups of eight. -/
def K3 (c : Dev nD) : S8x384x8x12032.Idx → EReal := fun i =>
  rdot (fun k => V m c main_arg0 (ix3 (⟨(i 0).val, (i 0).isLt⟩ : Fin 8) (⟨8 * (i 1).val + (i 2).val, by
      have h1 : (i 1).val < 384 := (i 1).isLt
      have h2 : (i 2).val < 8 := (i 2).isLt
      omega⟩ : Fin 3072) k))
    (fun k => V m c main_arg1 (ix2 (⟨(i 3).val, (i 3).isLt⟩ : Fin 12032) k)) (V m c main_v0 (ix2 0 (⟨(i 3).val, (i 3).isLt⟩ : Fin 12032)))
/-- The codes' array in closed form. -/
def K4 (c : Dev nD) : S8x3072x6656.Idx → EReal := fun i =>
  rcode (fun k => V m c main_arg0 (ix3 (⟨(i 0).val, (i 0).isLt⟩ : Fin 8) (⟨(i 1).val, (i 1).isLt⟩ : Fin 3072) k)) ⟨(i 2).val, (i 2).isLt⟩
/-- The scales' array in closed form. -/
def K5 (c : Dev nD) : S8x3072x1.Idx → EReal := fun i =>
  rscale fun k => V m c main_arg0 (ix3 (⟨(i 0).val, (i 0).isLt⟩ : Fin 8) (⟨(i 1).val, (i 1).isLt⟩ : Fin 3072) k)

/-- What a point stores of the products, at an index its transfer moves, is the closed form at the array's index,
    whatever the clipped windows' buffers held past the arrays' ends. -/
theorem point3 (c : Dev nD) (t : Fin cfg0.N) (d1 d2) (y : (win0_3.xblock (grid0.coords t)).Idx) :
    k0_pay2 (qc (iblk m c 0 t)) (wblk m c t d1) (qs (iblk m c 0 t)) (wsblk m c t d2) (win0_3.xinj (grid0.coords t) y)
      = K3 m c ((win0_3.blk t).view.emb y) := by
  have e := ix_3 t
  have hlt : t.val < 576 := t.isLt
  have hx := xs_3 t
  have h0 : (y 0).val < 1 := lt_of_lt_of_le (y 0).isLt (win0_3.xsize_le (grid0.coords t) 0)
  have h1 : (y 1).val < 128 := lt_of_lt_of_le (y 1).isLt (win0_3.xsize_le (grid0.coords t) 1)
  have h2 : (y 2).val < 8 := lt_of_lt_of_le (y 2).isLt (win0_3.xsize_le (grid0.coords t) 2)
  have h3 : (y 3).val < min 512 (12032 - 512 * (t.val % 24)) := lt_of_lt_of_eq (y 3).isLt hx
  have g0 : ((win0_3.blk t).view.emb y 0).val = t.val / 72 := by
    blk_simp [e]
    show t.val / 72 + (y 0).val = t.val / 72
    omega
  have g1 : ((win0_3.blk t).view.emb y 1).val = 128 * (t.val / 24 % 3) + (y 1).val := by
    blk_simp [e]
    show t.val / 24 % 3 * 128 + (y 1).val = _
    omega
  have g2 : ((win0_3.blk t).view.emb y 2).val = (y 2).val := by
    blk_simp [e]
  have g3 : ((win0_3.blk t).view.emb y 3).val = 512 * (t.val % 24) + (y 3).val := by
    blk_simp [e]
    show t.val % 24 * 512 + (y 3).val = _
    omega
  generalize (win0_3.blk t).view.emb y = i at g0 g1 g2 g3
  rw [kpay2_apply _ _ _ _ _ (⟨8 * (y 1).val + (y 2).val, by omega⟩ : Fin 1024) (⟨(y 3).val, by omega⟩ : Fin 512)
    (by show (y 1).val * 8 + (y 2).val = 8 * (y 1).val + (y 2).val; omega) rfl]
  unfold K3 rdot
  rw [wsblk_apply m c t d2 ⟨(y 3).val, by omega⟩ ⟨(i 3).val, (i 3).isLt⟩ g3]
  rw [qs_row _ _ ⟨8 * (y 1).val + (y 2).val, by omega⟩ rfl]
  have hrow : (fun k : Fin 6656 => iblk m c 0 t (ix3 0 (⟨8 * (y 1).val + (y 2).val, by omega⟩ : Fin 1024) k))
      = fun k => V m c main_arg0 (ix3 (⟨(i 0).val, (i 0).isLt⟩ : Fin 8) (⟨8 * (i 1).val + (i 2).val, by
      have h1 : (i 1).val < 384 := (i 1).isLt
      have h2 : (i 2).val < 8 := (i 2).isLt
      omega⟩ : Fin 3072) k) :=
    funext fun k => iblk0_apply m c t _ k _ _ g0 (by show 8 * (i 1).val + (i 2).val = 1024 * (t.val / 24 % 3) + (8 * (y 1).val + (y 2).val); omega)
  rw [hrow]
  refine congrArg (fun s => s * _ * _) (Finset.sum_congr rfl fun k _ => ?_)
  rw [qc_row _ _ ⟨8 * (y 1).val + (y 2).val, by omega⟩ k rfl rfl, hrow]
  rw [wblk_apply m c t d1 ⟨(y 3).val, by omega⟩ k ⟨(i 3).val, (i 3).isLt⟩ g3]

/-- The part moved of what a point stores does not depend on what the clipped windows' buffers held past the ends. -/
theorem cut3 (c : Dev nD) (t : Fin cfg0.N) (d1 d2 d1' d2') :
    win0_3.cut (grid0.coords t) (k0_pay2 (qc (iblk m c 0 t)) (wblk m c t d1) (qs (iblk m c 0 t)) (wsblk m c t d2))
      = win0_3.cut (grid0.coords t) (k0_pay2 (qc (iblk m c 0 t)) (wblk m c t d1') (qs (iblk m c 0 t)) (wsblk m c t d2')) :=
  funext fun y => (point3 m c t d1 d2 y).trans (point3 m c t d1' d2' y).symm

/-- What a point stores of the codes is the closed form at the array's index. -/
theorem point4 (c : Dev nD) (t : Fin cfg0.N) (y : (win0_4.xblock (grid0.coords t)).Idx) :
    qc (iblk m c 0 t) (win0_4.xinj (grid0.coords t) y) = K4 m c ((win0_4.blk t).view.emb y) := by
  have e := ix_4 t
  have h0 : (y 0).val < 1 := lt_of_lt_of_le (y 0).isLt (win0_4.xsize_le (grid0.coords t) 0)
  have h1 : (y 1).val < 1024 := lt_of_lt_of_le (y 1).isLt (win0_4.xsize_le (grid0.coords t) 1)
  have h2 : (y 2).val < 6656 := lt_of_lt_of_le (y 2).isLt (win0_4.xsize_le (grid0.coords t) 2)
  have g0 : ((win0_4.blk t).view.emb y 0).val = t.val / 72 := by
    blk_simp [e]
  have g1 : ((win0_4.blk t).view.emb y 1).val = 1024 * (t.val / 24 % 3) + (y 1).val := by
    blk_simp [e]
    show t.val / 24 % 3 * 1024 + (y 1).val = _
    omega
  have g2 : ((win0_4.blk t).view.emb y 2).val = (y 2).val := by
    blk_simp [e]
  generalize (win0_4.blk t).view.emb y = i at g0 g1 g2
  rw [qc_row _ _ ⟨(y 1).val, h1⟩ ⟨(y 2).val, h2⟩ rfl rfl]
  unfold K4
  rw [funext fun k => iblk0_apply m c t ⟨(y 1).val, h1⟩ k ⟨(i 0).val, (i 0).isLt⟩ ⟨(i 1).val, (i 1).isLt⟩ g0 g1]
  exact congrArg _ (Fin.ext g2.symm)

/-- What a point stores of the scales is the closed form at the array's index. -/
theorem point5 (c : Dev nD) (t : Fin cfg0.N) (y : (win0_5.xblock (grid0.coords t)).Idx) :
    qs (iblk m c 0 t) (win0_5.xinj (grid0.coords t) y) = K5 m c ((win0_5.blk t).view.emb y) := by
  have e := ix_5 t
  have h0 : (y 0).val < 1 := lt_of_lt_of_le (y 0).isLt (win0_5.xsize_le (grid0.coords t) 0)
  have h1 : (y 1).val < 1024 := lt_of_lt_of_le (y 1).isLt (win0_5.xsize_le (grid0.coords t) 1)
  have g0 : ((win0_5.blk t).view.emb y 0).val = t.val / 72 := by
    blk_simp [e]
  have g1 : ((win0_5.blk t).view.emb y 1).val = 1024 * (t.val / 24 % 3) + (y 1).val := by
    blk_simp [e]
    show t.val / 24 % 3 * 1024 + (y 1).val = _
    omega
  generalize (win0_5.blk t).view.emb y = i at g0 g1
  rw [qs_row _ _ ⟨(y 1).val, h1⟩ rfl]
  unfold K5
  rw [funext fun k => iblk0_apply m c t ⟨(y 1).val, h1⟩ k ⟨(i 0).val, (i 0).isLt⟩ ⟨(i 1).val, (i 1).isLt⟩ g0 g1]

end Cert.KernelIdeal.Hand

end
-- ==== Proof.KValue.lean ====
module

public import proofs.«01_k».proof.Proof.KRows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What a weight block's buffer is said to hold past the array's end. -/
abbrev fil1 : S512x6656.Idx → Elt Ideal .fp8e4m3 := fun _ => Scalar.ofBits (F := Ideal) .fp8e4m3 0#8
/-- What a weight scales' buffer is said to hold past the array's end. -/
abbrev fil2 : S1x512.Idx → Elt Ideal .f32 := fun _ => Scalar.ofBits (F := Ideal) .f32 0#32

/-- The value run's proof data: what the body leaves in every window's buffer at every point. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wblk m c t fil1
    | ⟨2, _⟩ => wsblk m c t fil2
    | ⟨3, _⟩ => k0_pay2 (qc (iblk m c 0 t)) (wblk m c t fil1) (qs (iblk m c 0 t)) (wsblk m c t fil2)
    | ⟨4, _⟩ => qc (iblk m c 0 t)
    | ⟨5, _⟩ => qs (iblk m c 0 t)
  Φ _ := Pipeline.ΦA spec0 c
  q _ := fullShare
  owed _ := 0

theorem vafter_3 (c : Dev nD) (t : Fin cfg0.N) : (vdats m 0 c).after 3 t = k0_pay2 (qc (iblk m c 0 t)) (wblk m c t fil1) (qs (iblk m c 0 t)) (wsblk m c t fil2) := rfl
theorem vafter_4 (c : Dev nD) (t : Fin cfg0.N) : (vdats m 0 c).after 4 t = qc (iblk m c 0 t) := rfl
theorem vafter_5 (c : Dev nD) (t : Fin cfg0.N) : (vdats m 0 c).after 5 t = qs (iblk m c 0 t) := rfl

theorem vbefore_0 (c : Dev nD) (t : Fin cfg0.N) (d) : (vdats m 0 c).before 0 t d = iblk m c 0 t :=
  before0_0_of m (vdats m 0 c) rfl (fun _ => rfl) t d
theorem vbefore_1 (c : Dev nD) (t : Fin cfg0.N) (d) : (vdats m 0 c).before 1 t d = wblk m c t d := by
  unfold Dat.before; rw [if_pos (fetch0_1 t)]; rfl
theorem vbefore_2 (c : Dev nD) (t : Fin cfg0.N) (d) : (vdats m 0 c).before 2 t d = wsblk m c t d := by
  unfold Dat.before; rw [if_pos (fetch0_2 t)]; rfl

/-- The body quantises exactly at the first point of a grid row. -/
theorem cond_iff : ∀ t : Fin cfg0.N, k0_cond1 (grid0.coords t) = 1#1 ↔ t.val % 24 = 0 := (by decide +kernel : ∀ t : Fin grid0.N, _)
/-- The codes' buffer is idle off the first point of a row. -/
theorem idle_4 : ∀ t : Fin cfg0.N, cfg0.idle 4 (cfg0.grid.coords t) = !decide (t.val % 24 = 0) := (by decide +kernel : ∀ t : Fin grid0.N, _)
theorem idle_5 : ∀ t : Fin cfg0.N, cfg0.idle 5 (cfg0.grid.coords t) = !decide (t.val % 24 = 0) := (by decide +kernel : ∀ t : Fin grid0.N, _)
/-- The codes' and the scales' blocks are written back at the last point of a row. -/
theorem fl_4 : ∀ t : Fin cfg0.N, (cfg0.win 4).flush t = decide (t.val % 24 = 23) := (by decide +kernel : ∀ t : Fin grid0.N, _)
theorem fl_5 : ∀ t : Fin cfg0.N, (cfg0.win 5).flush t = decide (t.val % 24 = 23) := (by decide +kernel : ∀ t : Fin grid0.N, _)

theorem fresh_4 (n : ℕ) (h : n ≤ cfg0.N) : cfg0.fresh 4 n = decide (n % 24 = 0) :=
  cfg0.fresh_tab 4 (fun n => decide (n % 24 = 0)) rfl (fun t => by
    rw [idle_4 t, fl_4 t]
    by_cases h0 : t.val % 24 = 0 <;> by_cases h1 : t.val % 24 = 23 <;> by_cases h2 : (t.val + 1) % 24 = 0 <;> simp [h0, h1, h2] <;> omega) n h
theorem fresh_5 (n : ℕ) (h : n ≤ cfg0.N) : cfg0.fresh 5 n = decide (n % 24 = 0) :=
  cfg0.fresh_tab 5 (fun n => decide (n % 24 = 0)) rfl (fun t => by
    rw [idle_5 t, fl_5 t]
    by_cases h0 : t.val % 24 = 0 <;> by_cases h1 : t.val % 24 = 23 <;> by_cases h2 : (t.val + 1) % 24 = 0 <;> simp [h0, h1, h2] <;> omega) n h

/-- Off the first point of a row the body finds the codes the row's first point left. -/
theorem vbefore_4 (c : Dev nD) (t : Fin cfg0.N) (d) (h : t.val % 24 ≠ 0) : (vdats m 0 c).before 4 t d = qc (iblk m c 0 t) := by
  have hN := t.isLt
  rw [(vdats m 0 c).before_out_traj 4 rfl (fun _ _ => rfl) (fun s hs _ hf => by
    have hsN := s.isLt
    rw [fresh_4 s.val (by omega), decide_eq_false_iff_not] at hf
    rw [vafter_4, vafter_4, iblk0_prev m c s ⟨s.val - 1, by omega⟩ (by show (s.val - 1) / 24 = s.val / 24; omega)]) t.val t rfl d]
  rw [fresh_4 t.val (by omega), decide_eq_false h, if_neg Bool.false_ne_true, vafter_4,
    iblk0_prev m c t ⟨t.val - 1, by omega⟩ (by show (t.val - 1) / 24 = t.val / 24; omega)]
/-- Off the first point of a row the body finds the scales the row's first point left. -/
theorem vbefore_5 (c : Dev nD) (t : Fin cfg0.N) (d) (h : t.val % 24 ≠ 0) : (vdats m 0 c).before 5 t d = qs (iblk m c 0 t) := by
  have hN := t.isLt
  rw [(vdats m 0 c).before_out_traj 5 rfl (fun _ _ => rfl) (fun s hs _ hf => by
    have hsN := s.isLt
    rw [fresh_5 s.val (by omega), decide_eq_false_iff_not] at hf
    rw [vafter_5, vafter_5, iblk0_prev m c s ⟨s.val - 1, by omega⟩ (by show (s.val - 1) / 24 = s.val / 24; omega)]) t.val t rfl d]
  rw [fresh_5 t.val (by omega), decide_eq_false h, if_neg Bool.false_ne_true, vafter_5,
    iblk0_prev m c t ⟨t.val - 1, by omega⟩ (by show (t.val - 1) / 24 = t.val / 24; omega)]

/-- What the obligation asks of the codes' buffer after the body, from the codes in it. -/
theorem leaves_4 (c : Dev nD) (t : Fin cfg0.N) :
    owns (c : Thread nD τ) (win0_4.stage (cfg0.slots t 4)) fullShare (qc (iblk m c 0 t)) ⊢
      (match cfg0.idle 4 (cfg0.grid.coords t) with
        | true =>
          match (cfg0.win 4).flush t with
          | false => iprop(∃ d, owns (c : Thread nD τ) (win0_4.stage (cfg0.slots t 4)) fullShare ((vdats m 0 c).before 4 t d))
          | true => owns (c : Thread nD τ) (win0_4.stage (cfg0.slots t 4)) fullShare ((vdats m 0 c).after 4 t)
        | false => owns (c : Thread nD τ) (win0_4.stage (cfg0.slots t 4)) fullShare ((vdats m 0 c).after 4 t) : sProp 𝕄) := by
  rw [idle_4 t]
  by_cases h : t.val % 24 = 0
  · rw [decide_eq_true h]; exact .rfl
  · rw [decide_eq_false h]
    show _ ⊢ (match (cfg0.win 4).flush t with | false => _ | true => _ : sProp 𝕄)
    cases (cfg0.win 4).flush t
    · iintro H
      iexists (qc (iblk m c 0 t))
      rw [vbefore_4 m c t _ h]
      iexact H
    · exact .rfl
theorem leaves_5 (c : Dev nD) (t : Fin cfg0.N) :
    owns (c : Thread nD τ) (win0_5.stage (cfg0.slots t 5)) fullShare (qs (iblk m c 0 t)) ⊢
      (match cfg0.idle 5 (cfg0.grid.coords t) with
        | true =>
          match (cfg0.win 5).flush t with
          | false => iprop(∃ d, owns (c : Thread nD τ) (win0_5.stage (cfg0.slots t 5)) fullShare ((vdats m 0 c).before 5 t d))
          | true => owns (c : Thread nD τ) (win0_5.stage (cfg0.slots t 5)) fullShare ((vdats m 0 c).after 5 t)
        | false => owns (c : Thread nD τ) (win0_5.stage (cfg0.slots t 5)) fullShare ((vdats m 0 c).after 5 t) : sProp 𝕄) := by
  rw [idle_5 t]
  by_cases h : t.val % 24 = 0
  · rw [decide_eq_true h]; exact .rfl
  · rw [decide_eq_false h]
    show _ ⊢ (match (cfg0.win 5).flush t with | false => _ | true => _ : sProp 𝕄)
    cases (cfg0.win 5).flush t
    · iintro H
      iexists (qs (iblk m c 0 t))
      rw [vbefore_5 m c t _ h]
      iexact H
    · exact .rfl

end Cert.KernelIdeal.Hand

end
-- ==== Proof.KFinal.lean ====
module

public import proofs.«01_k».proof.Proof.KValue
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The products' array after the run. -/
theorem final_3 (c : Dev nD) : (vdats m 0 c).arrAt 3 cfg0.N = K3 m c := by
  refine (vdats m 0 c).arrAt_eq_of_covers 3 _ (by decide +kernel) fun t hf y => ?_
  exact point3 m c t fil1 fil2 y
/-- The codes' array after the run. -/
theorem final_4 (c : Dev nD) : (vdats m 0 c).arrAt 4 cfg0.N = K4 m c := by
  refine (vdats m 0 c).arrAt_eq_of_covers 4 _ (by decide +kernel) fun t hf y => ?_
  exact point4 m c t y
/-- The scales' array after the run. -/
theorem final_5 (c : Dev nD) : (vdats m 0 c).arrAt 5 cfg0.N = K5 m c := by
  refine (vdats m 0 c).arrAt_eq_of_covers 5 _ (by decide +kernel) fun t hf y => ?_
  exact point5 m c t y

/-- The reshaped weight scales at the region's entry. -/
theorem V_main_v0 (c : Dev nD) (q : Fin 12032) : V m c main_v0 (ix2 0 q) = m ((c : Thread nD τ).loc main_arg2) (ix1 q) := by
  have h : V m c main_v0 = shapeCast S1x12032 (m ((c : Thread nD τ).loc main_arg2)) shapeCasts_S12032_S1x12032 := by
    show StableHlo.after (List.flatten [hostOps0]) (fun b => m (c, b)) (Proc.devRef .tc main_v0) = _
    simp only [hostOps0, List.flatten_cons, List.flatten_nil, List.append_nil, StableHlo.after_cons, StableHlo.after_nil]
    exact StableHlo.reshape_result _ _ _ _ _ _ _
  rw [h]
  refine shapeCast_apply _ _ _ _ ?_
  show (S12032.rowMajor (ix1 q)).val = (S1x12032.rowMajor (ix2 0 q)).val
  rw [Shape.rowMajor_val_one, Shape.rowMajor_val_two]
  show q.val = 0 * 12032 + q.val
  omega

/-- The first result after the run: the products' array, its groups of rows joined. -/
theorem tail_v2 (c : Dev nD) (b : Fin 8) (p : Fin 3072) (q : Fin 12032) (i : Fin 384) (j : Fin 8) (h : p.val = 8 * i.val + j.val) :
    Pipeline.afterTail₀ cfgs (vdats m) 0 (V0 m) [hostOps1] c main_v2 (ix3 b p q) = K3 m c (ix4 b i j q) := by
  have e : Pipeline.afterTail₀ cfgs (vdats m) 0 (V0 m) [hostOps1] c main_v2 = shapeCast S8x3072x12032 (K3 m c) shapeCasts_S8x384x8x12032_S8x3072x12032 := by
    unfold Pipeline.afterTail₀
    simp only [hostOps1, List.flatten_cons, List.flatten_nil, List.append_nil, StableHlo.after_cons, StableHlo.after_nil]
    refine (StableHlo.reshape_result _ _ _ _ _ _ _).trans ?_
    have w : Pipeline.withArrays (cfgs 0).spec c (V0 m c) (fun w => (vdats m 0 c).arrAt w (cfgs 0).N) (Proc.devRef .tc main_v1_0) = K3 m c :=
      (Pipeline.withArrays_arr (cfgs 0).spec launch0.win.arr_inj c (V0 m c) (fun w => (vdats m 0 c).arrAt w (cfgs 0).N) 3).trans (final_3 m c)
    rw [w]
    rfl
  rw [e]
  refine shapeCast_apply _ _ _ _ ?_
  rw [Shape.rowMajor_val_three, Shape.rowMajor_val_four]
  show ((b.val * 384 + i.val) * 8 + j.val) * 12032 + q.val = (b.val * 3072 + p.val) * 12032 + q.val
  omega

end Cert.KernelIdeal.Hand

end
-- ==== Proof.KObl.lean ====
module

public import proofs.«01_k».proof.Proof.KValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- THE BODY at a point, its values named: whatever the clipped buffers hold past the arrays' ends, it leaves the
    products of the point's codes, the codes and the scales. -/
theorem body_point (c : Dev nD) (t : Fin cfg0.N) (arg2 : Memref sig .tc .vmem S1x1024x6656 .bf16) (harg2 : arg2.IsWhole) (arg3 : Memref sig .tc .vmem S512x6656 .fp8e4m3) (harg3 : arg3.IsWhole) (arg4 : Memref sig .tc .vmem S1x512 .f32) (harg4 : arg4.IsWhole) (arg5 : Memref sig .tc .vmem S1x128x8x512 .bf16) (harg5 : arg5.IsWhole) (arg6 : Memref sig .tc .vmem S1x1024x6656 .fp8e4m3) (harg6 : arg6.IsWhole) (arg7 : Memref sig .tc .vmem S1x1024x1 .f32) (harg7 : arg7.IsWhole)
    (X1 : S512x6656.Idx → Elt Ideal .fp8e4m3) (X2 : S1x512.Idx → Elt Ideal .f32) (X3 : S1x128x8x512.Idx → Elt Ideal .bf16) (d4 : S1x1024x6656.Idx → Elt Ideal .fp8e4m3) (d5 : S1x1024x1.Idx → Elt Ideal .f32) :
    iprop(owns (c : Thread nD τ) arg2 fullShare (iblk m c 0 t) ∗ owns (c : Thread nD τ) arg3 fullShare X1 ∗ owns (c : Thread nD τ) arg4 fullShare X2
        ∗ owns (c : Thread nD τ) arg5 fullShare X3 ∗ owns (c : Thread nD τ) arg6 fullShare ((vdats m 0 c).before 4 t d4) ∗ owns (c : Thread nD τ) arg7 fullShare ((vdats m 0 c).before 5 t d5))
      ⊢ wp (M := 𝕄) frame (wpE (defs₀ (F := Ideal)) 𝒱₀ c none) Set.univ
          (cc0__body (grid0.coords t) arg2 harg2 arg3 harg3 arg4 harg4 arg5 harg5 arg6 harg6 arg7 harg7) fun _ =>
          iprop(owns (c : Thread nD τ) arg2 fullShare (iblk m c 0 t) ∗ owns (c : Thread nD τ) arg3 fullShare X1 ∗ owns (c : Thread nD τ) arg4 fullShare X2
            ∗ owns (c : Thread nD τ) arg5 fullShare (k0_pay2 (qc (iblk m c 0 t)) X1 (qs (iblk m c 0 t)) X2)
            ∗ owns (c : Thread nD τ) arg6 fullShare (qc (iblk m c 0 t)) ∗ owns (c : Thread nD τ) arg7 fullShare (qs (iblk m c 0 t))) := by
  by_cases h : k0_cond1 (grid0.coords t) = 1#1
  · exact body_first c (grid0.coords t) arg2 harg2 arg3 harg3 arg4 harg4 arg5 harg5 arg6 harg6 arg7 harg7 h (iblk m c 0 t) X1 X2 X3 _ _
  · have h' : t.val % 24 ≠ 0 := fun e => h ((cond_iff t).mpr e)
    rw [vbefore_4 m c t d4 h', vbefore_5 m c t d5 h']
    exact body_rest c (grid0.coords t) arg2 harg2 arg3 harg3 arg4 harg4 arg5 harg5 arg6 harg6 arg7 harg7 h (iblk m c 0 t) X1 X2 X3 _ _

/-- The body's obligation with every value named. -/
theorem value_obligation (c : Dev nD) :
    BodyObligationLoose (vdats m 0 c) (defs₀ (F := Ideal)) 𝒱₀ () Set.univ := fun t => by
  rw [bigSep_W0, bigSep_W0, defs₀_row]
  rw [show (vdats m 0 c).Φ t.succ = (vdats m 0 c).Φ t.castSucc from rfl, show (vdats m 0 c).owesAt () t.succ = (vdats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [vbefore_0 m c t d0, vbefore_1 m c t d1, vbefore_2 m c t d2]
  iapply (wp_wand_r Idealize.ShloMosaic.frame (wpE (defs₀ (F := Ideal)) 𝒱₀ (c : Thread nD τ) none) Set.univ)
  isplitl [H0 H1 H2 H3 H4 H5]
  · iapply (body_point m c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
      (wblk m c t d1) (wsblk m c t d2) ((vdats m 0 c).before 3 t d3) d4 d5)
    isplitl [H0]; · iexact H0
    isplitl [H1]; · iexact H1
    isplitl [H2]; · iexact H2
    isplitl [H3]; · iexact H3
    isplitl [H4]; · iexact H4
    iexact H5
  iintro %_
  iintro ⟨H0, H1, H2, H3, H4, H5⟩
  isplitl [HΦ]; · iexact HΦ
  isplitl [Ho]; · iexact Ho
  isplitl [H0]; · iexact H0
  isplitl [H1]
  · iexists d1
    change _ ⊢ owns (c : Thread nD τ) (win0_1.stage (cfg0.slots t 1)) fullShare (win0_1.fill (grid0.coords t) d1 (win0_1.cut (grid0.coords t) (win0_1.fill (grid0.coords t) _ (iblk m c 1 t))))
    rw [win0_1.cut_fill]
  isplitl [H2]
  · iexists d2
    change _ ⊢ owns (c : Thread nD τ) (win0_2.stage (cfg0.slots t 2)) fullShare (win0_2.fill (grid0.coords t) d2 (win0_2.cut (grid0.coords t) (win0_2.fill (grid0.coords t) _ (iblk m c 2 t))))
    rw [win0_2.cut_fill]
  isplitl [H3]
  · iexists (k0_pay2 (qc (iblk m c 0 t)) (wblk m c t d1) (qs (iblk m c 0 t)) (wsblk m c t d2))
    change _ ⊢ owns (c : Thread nD τ) (win0_3.stage (cfg0.slots t 3)) fullShare (win0_3.fill (α := Elt Ideal .bf16) (grid0.coords t) (k0_pay2 (qc (iblk m c 0 t)) (wblk m c t d1) (qs (iblk m c 0 t)) (wsblk m c t d2))
      (win0_3.cut (α := Elt Ideal .bf16) (grid0.coords t) (k0_pay2 (qc (iblk m c 0 t)) (wblk m c t fil1) (qs (iblk m c 0 t)) (wsblk m c t fil2))))
    rw [← cut3 m c t d1 d2 fil1 fil2, win0_3.fill_cut]
  isplitl [H4]
  · iapply (leaves_4 m c t); iexact H4
  iapply (leaves_5 m c t); iexact H5

set_option backward.isDefEq.respectTransparency.types false in
/-- THE VALUE RUN: every execution ends with every window's array at what the proof data say of it. -/
theorem value_run :
    θ_run defs (onTc (τ := τ) (main (F := Ideal))) (s₀ m ρ) (Pipeline.FramePost cfgs (vdats m) 0 (Pipeline.afterTail₀ cfgs (vdats m) 0 (V0 m) [hostOps1])) :=
  Pipeline.θ_run_frame_around cfgs (vdats m) (0 : Fin 1) launch0 defs₀ 𝒱₀ m ρ main
    (hbody := value_obligation m) (hshare := fun c => (vdats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

end Cert.KernelIdeal.Hand

end
-- ==== Proof.RPay.lean ====
module

public import proofs.«01_k».proof.Proof.Gen.ReferenceIdeal.Skeleton
public import proofs.«01_k».proof.Proof.KRead

@[expose] public section

set_option maxRecDepth 16384

noncomputable section

namespace Cert.Own

open Idealize.ShloMosaic

section Reference
open Cert.ReferenceIdeal Cert.ReferenceIdeal.Gen

/-- The reference's arithmetic for the exponents, at an index, is `expForm` there. -/
theorem rexp_form (M : FVec Ideal S8x3072x1 .f32) (c l o z : EReal) (y : S8x3072x1.Idx) :
    select (cmpf .oeq M (broadcast S8x3072x1 z)) (broadcast S8x3072x1 z)
      (addf (floor (divf (log (mulf M (broadcast S8x3072x1 c))) (broadcast S8x3072x1 l))) (broadcast S8x3072x1 o)) y = expForm (M y) c l o z := rfl

/-- The exponents are `expOf` of the rows' largest magnitudes, as the reference takes them. -/
theorem rpay2_tree (X : Vec Ideal S8x3072x6656 .bf16) (y : S8x3072x1.Idx) :
    k0_pay2 X y = expOf (shapeCast S8x3072x1 (multiReduction .maximumf [2] S8x3072 (absf (k0_pay1 X)) 0xFF800000#32 reduces_S8x3072x6656_S8x3072 (.inl rfl) rfl) shapeCasts_S8x3072_S8x3072x1 y) := by
  unfold k0_pay2 expOf
  exact rexp_form (shapeCast S8x3072x1 (multiReduction .maximumf [2] S8x3072 (absf (k0_pay1 X)) 0xFF800000#32 reduces_S8x3072x6656_S8x3072 (.inl rfl) rfl) shapeCasts_S8x3072_S8x3072x1) _ _ _ _ y

/-- The exponent of a row. -/
theorem rpay2_apply (X : Vec Ideal S8x3072x6656 .bf16) (b : Fin 8) (r : Fin 3072) :
    k0_pay2 X (ix3 b r 0) = expOf (rmax fun k => X (ix3 b r k)) := by
  rw [rpay2_tree]
  refine congrArg expOf ?_
  rw [shapeCast_apply _ _ (ix3 b r 0) (ix2 b r) (by
    rw [Shape.rowMajor_val_two, Shape.rowMajor_val_three]
    show b.val * 3072 + r.val = (b.val * 3072 + r.val) * 1 + 0
    omega)]
  refine (max_rows3 (A := 8) (B := 3072) (C := 6656) (absf (k0_pay1 X)) 0xFF800000#32 reduces_S8x3072x6656_S8x3072 (.inl rfl) rfl (ix2 b r) b r rfl rfl).trans ?_
  rw [ninf_f32]
  unfold rmax
  exact congrArg (fun f => (Finset.univ : Finset (Fin 6656)).fold max ⊥ f) (funext fun k => rfl)

/-- The scale of a row. -/
theorem rpay3_apply (X : Vec Ideal S8x3072x6656 .bf16) (b : Fin 8) (r : Fin 3072) :
    k0_pay3 X (ix3 b r 0) = rscale fun k => X (ix3 b r k) := by
  exact (exp2_at (k0_pay2 X) (ix3 b r 0)).trans (congrArg Ideal.exp2 (rpay2_apply X b r))

/-- The reference's arithmetic for the codes, at an index, is `codeForm` there. -/
theorem rcode_form (Y : FVec Ideal S8x3072x6656 .f32) (E : FVec Ideal S8x3072x1 .f32) (lo hi z : EReal) (b : Fin 8) (r : Fin 3072) (k : Fin 6656) :
    (truncf .fp8e4m3 (minimumf (broadcast S8x3072x6656 hi) (maximumf (broadcast S8x3072x6656 lo)
      (mulf Y (broadcastTo S8x3072x6656 (exp2 (subf (broadcast S8x3072x1 z) E)) broadcasts_S8x3072x1_S8x3072x6656)))) bitsLt_fp8e4m3_f32 : FVec Ideal S8x3072x6656 .fp8e4m3) (ix3 b r k)
      = codeForm (Y (ix3 b r k)) (E (ix3 b r 0)) lo hi z := by
  have e : ∀ Z : FVec Ideal S8x3072x6656 .f32, Z (ix3 b r k) = Ideal.exp2 (z - E (ix3 b r 0)) →
      (truncf .fp8e4m3 (minimumf (broadcast S8x3072x6656 hi) (maximumf (broadcast S8x3072x6656 lo) (mulf Y Z))) bitsLt_fp8e4m3_f32 : FVec Ideal S8x3072x6656 .fp8e4m3) (ix3 b r k)
        = codeForm (Y (ix3 b r k)) (E (ix3 b r 0)) lo hi z := fun Z h => by
    unfold codeForm
    rw [← h]
    rfl
  refine e _ ?_
  rw [broadcastTo_apply _ _ (ix3 b r k) (ix3 b r 0) (fun a => by
      match a with
      | ⟨0, _⟩ => rfl
      | ⟨1, _⟩ => rfl
      | ⟨2, _⟩ => rfl)]
  rfl

/-- The code of an element. -/
theorem rpay4_apply (X : Vec Ideal S8x3072x6656 .bf16) (b : Fin 8) (r : Fin 3072) (k : Fin 6656) :
    k0_pay4 X (ix3 b r k) = rcode (fun k => X (ix3 b r k)) k := by
  have q := rpay2_apply X b r
  unfold rcode codeOf
  rw [← q]
  unfold k0_pay4
  exact rcode_form (k0_pay1 X) (k0_pay2 X) _ _ _ b r k

/-- The product of codes and weights, at an element. -/
theorem rdot_apply (C : Vec Ideal S8x3072x6656 .fp8e4m3) (W : Vec Ideal S12032x6656 .fp8e4m3) (b : Fin 8) (p : Fin 3072) (q : Fin 12032) :
    (matmul (φ₁ := .fp8e4m3) (φ₂ := .fp8e4m3) dot_S8x3072x6656_S12032x6656_S8x3072x12032_2_1_01_0_n_n none C W (constant S8x3072x12032 .f32 0x00000000#32) : FVec Ideal S8x3072x12032 .f32) (ix3 b p q)
      = ∑ k : Fin 6656, C (ix3 b p k) * W (ix2 q k) := by
  refine (Ideal.matmul_apply₁_of dot_S8x3072x6656_S12032x6656_S8x3072x12032_2_1_01_0_n_n rfl rfl C W _ (ix3 b p q) (fun k => ix3 b p k) (fun k => ix2 q k)
    (fun k => by funext a; match a with | ⟨0, _⟩ => rfl | ⟨1, _⟩ => rfl | ⟨2, _⟩ => rfl)
    (fun k => by funext a; match a with | ⟨0, _⟩ => rfl | ⟨1, _⟩ => rfl)).trans ?_
  show Ideal.ofBits .f32 0x00000000#32 + _ = _
  rw [Ideal.ofBits_zero_f32, zero_add]
  rfl

/-- A result's element: `rdot` of its row, its weight row and its weight row's scale. -/
theorem rpay5_apply (X : Vec Ideal S8x3072x6656 .bf16) (W : Vec Ideal S12032x6656 .fp8e4m3) (Z : Vec Ideal S12032 .f32) (b : Fin 8) (p : Fin 3072) (q : Fin 12032) :
    k0_pay5 X W Z (ix3 b p q) = rdot (fun k => X (ix3 b p k)) (fun k => W (ix2 q k)) (Z (ix1 q)) := by
  have hS : (broadcastTo S8x3072x12032 (k0_pay3 X) broadcasts_S8x3072x1_S8x3072x12032 : FVec Ideal S8x3072x12032 .f32) (ix3 b p q) = rscale fun k => X (ix3 b p k) := by
    rw [broadcastTo_apply _ _ (ix3 b p q) (ix3 b p 0) (fun a => by
      match a with
      | ⟨0, _⟩ => rfl
      | ⟨1, _⟩ => rfl
      | ⟨2, _⟩ => rfl)]
    exact rpay3_apply X b p
  have hZ : (broadcastTo S8x3072x12032 (shapeCast S1x1x12032 Z shapeCasts_S12032_S1x1x12032 : FVec Ideal S1x1x12032 .f32) broadcasts_S1x1x12032_S8x3072x12032 : FVec Ideal S8x3072x12032 .f32) (ix3 b p q) = Z (ix1 q) := by
    rw [broadcastTo_apply _ _ (ix3 b p q) (ix3 0 0 q) (fun a => by
      match a with
      | ⟨0, _⟩ => rfl
      | ⟨1, _⟩ => rfl
      | ⟨2, _⟩ => rfl)]
    refine shapeCast_apply _ _ _ _ ?_
    rw [Shape.rowMajor_val_three, Shape.rowMajor_val_one]
    show q.val = ((0 : ℕ) * 1 + 0) * 12032 + q.val
    omega
  have hD := (rdot_apply (k0_pay4 X) W b p q).trans (Finset.sum_congr rfl fun k _ => by rw [rpay4_apply X b p k])
  unfold k0_pay5 rdot
  rw [← hD, ← hS, ← hZ]
  generalize (matmul (φ₁ := .fp8e4m3) (φ₂ := .fp8e4m3) dot_S8x3072x6656_S12032x6656_S8x3072x12032_2_1_01_0_n_n none (k0_pay4 X) W (constant S8x3072x12032 .f32 0x00000000#32) : FVec Ideal S8x3072x12032 .f32) = D
  generalize k0_pay3 X = S
  rfl

end Reference

end Cert.Own

end
-- ==== Proof.KRun.lean ====
module

public import proofs.«01_k».proof.Proof.KFinal
public import proofs.«01_k».proof.Proof.KObl
public import proofs.«01_k».proof.Proof.RPay
public import proofs.«01_k».proof.Proof.Gen.ReferenceIdeal.Value

@[expose] public section

set_option maxRecDepth 16384

noncomputable section

namespace Cert.KernelIdeal.Hand

open Cert.KernelIdeal Cert.KernelIdeal.Gen Cert.Own
open Idealize.ShloMosaic Idealize.ShloMosaic.TcCoe
open Idealize.SL Idealize.SL.Sem

variable (m : (ℓ : Loc nD τ sig) → Buf (Elt Ideal) ℓ) (ρ : Dev nD → PrngReg)

/-- Every index of a rank-3 array is `ix3` of its coordinates. -/
theorem exists_ix3 {A B C : ℕ} (i : (⟨3, ![A, B, C]⟩ : Shape).Idx) : ∃ (a : Fin A) (b : Fin B) (k : Fin C), i = ix3 a b k :=
  ⟨i 0, i 1, i 2, funext fun x => by
    match x with
    | ⟨0, _⟩ => rfl
    | ⟨1, _⟩ => rfl
    | ⟨2, _⟩ => rfl⟩

/-- The products: the kernel's first result is the reference's function of the arguments. -/
theorem same_y (c : Dev nD) : Pipeline.afterTail₀ cfgs (vdats m) 0 (V0 m) [hostOps1] c main_v2
    = Cert.ReferenceIdeal.Value.G3 (m ((c : Thread nD τ).loc main_arg0)) (m ((c : Thread nD τ).loc main_arg1)) (m ((c : Thread nD τ).loc main_arg2)) := by
  funext i
  obtain ⟨b, p, q, rfl⟩ := exists_ix3 (A := 8) (B := 3072) (C := 12032) i
  have hp := p.isLt
  have hd : p.val = 8 * (p.val / 8) + p.val % 8 := by omega
  refine (tail_v2 m c b p q ⟨p.val / 8, by omega⟩ ⟨p.val % 8, by omega⟩ hd).trans
    (Eq.trans ?_ (rpay5_apply (m ((c : Thread nD τ).loc main_arg0)) (m ((c : Thread nD τ).loc main_arg1)) (m ((c : Thread nD τ).loc main_arg2)) b p q).symm)
  unfold K3
  have e : (⟨8 * (p.val / 8) + p.val % 8, by omega⟩ : Fin 3072) = p := Fin.ext hd.symm
  have e2 : V m c main_v0 (ix2 0 q) = m ((c : Thread nD τ).loc main_arg2) (ix1 q) := V_main_v0 m c q
  rw [← e2, ← V_main_arg0 m c, ← V_main_arg1 m c]
  show rdot (fun k => V m c main_arg0 (ix3 b (⟨8 * (p.val / 8) + p.val % 8, _⟩ : Fin 3072) k)) (fun k => V m c main_arg1 (ix2 q k)) (V m c main_v0 (ix2 0 q)) = _
  rw [e]

/-- The codes: the kernel's second result is the reference's function of the arguments. -/
theorem same_codes (c : Dev nD) : (vdats m 0 c).arrAt 4 cfg0.N
    = Cert.ReferenceIdeal.Value.G4 (m ((c : Thread nD τ).loc main_arg0)) (m ((c : Thread nD τ).loc main_arg1)) (m ((c : Thread nD τ).loc main_arg2)) := by
  refine (final_4 m c).trans (funext fun i => ?_)
  obtain ⟨b, p, q, rfl⟩ := exists_ix3 (A := 8) (B := 3072) (C := 6656) i
  refine Eq.trans ?_ (rpay4_apply (m ((c : Thread nD τ).loc main_arg0)) b p q).symm
  unfold K4
  rw [← V_main_arg0 m c]
  rfl

/-- The scales: the kernel's third result is the reference's function of the arguments. -/
theorem same_scales (c : Dev nD) : (vdats m 0 c).arrAt 5 cfg0.N
    = Cert.ReferenceIdeal.Value.G5 (m ((c : Thread nD τ).loc main_arg0)) (m ((c : Thread nD τ).loc main_arg1)) (m ((c : Thread nD τ).loc main_arg2)) := by
  refine (final_5 m c).trans (funext fun i => ?_)
  obtain ⟨b, p, q, rfl⟩ := exists_ix3 (A := 8) (B := 3072) (C := 1) i
  have hq : q = 0 := Subsingleton.elim _ _
  subst hq
  refine Eq.trans ?_ (rpay3_apply (m ((c : Thread nD τ).loc main_arg0)) b p).symm
  unfold K5
  rw [← V_main_arg0 m c]
  rfl

/-- The kernel's run: each result at the reference's function of the arguments, the arguments unchanged. -/
theorem run : θ_run defs (onTc (τ := τ) (main (F := Ideal))) ⟨m, fun _ => 0, ρ⟩ fun r => ∀ c : Dev nD,
      r.2.mem ((c : Thread nD τ).loc main_v2) = Cert.ReferenceIdeal.Value.G3 (m ((c : Thread nD τ).loc main_arg0)) (m ((c : Thread nD τ).loc main_arg1)) (m ((c : Thread nD τ).loc main_arg2))
      ∧ r.2.mem ((c : Thread nD τ).loc main_v1_1) = Cert.ReferenceIdeal.Value.G4 (m ((c : Thread nD τ).loc main_arg0)) (m ((c : Thread nD τ).loc main_arg1)) (m ((c : Thread nD τ).loc main_arg2))
      ∧ r.2.mem ((c : Thread nD τ).loc main_v1_2) = Cert.ReferenceIdeal.Value.G5 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).2 main_v2 (Pipeline.mem_restRefs_of main_v2 (by decide) (by decide))).trans (same_y m c),
      ((h c).1 4).trans (same_codes m c),
      ((h c).1 5).trans (same_scales m c),
      ((h c).1 0).trans (((vdats m 0 c).arrAt_in 0 rfl _).trans (V_main_arg0 m c)),
      ((h c).1 1).trans (((vdats m 0 c).arrAt_in 1 rfl _).trans (V_main_arg1 m c)),
      ((h c).2 main_arg2 (Pipeline.mem_restRefs_of main_arg2 (by decide) (by decide))).trans (W_main_arg2 m (vdats m) c)⟩)
    (value_run m ρ)

end Cert.KernelIdeal.Hand

end
-- ==== Proof.lean ====
/-
  The proof of `Cert.Claim` (proofs.«01_k».proof.Defs).

  The frames of the kernel at the bit-exact and the ideal instance are `Hand.frame_run` (Proof/KFrame.lean and its twin
  Proof/BFrame.lean, one proof at any value instance over the two printed programs); the reference's frame is generated. The values are
  `Hand.run` (Proof/KRun.lean), which states the kernel's results as the reference's generated functions of the arguments.
-/
module

public import proofs.«01_k».proof.Defs
public import proofs.«01_k».proof.Proof.KFrame
public import proofs.«01_k».proof.Proof.BFrame
public import proofs.«01_k».proof.Proof.Gen.ReferenceIdeal.Frame
public import proofs.«01_k».proof.Proof.KRun
public import Idealize.ShloMosaic.Adequacy
public import Idealize.ShloMosaic.Init

@[expose] public section

noncomputable section

namespace Cert.Proof

open Idealize.ShloMosaic Idealize.SL.Sem

/-- `Cert.Claim`: the three frames with the counters at zero, and that the ideal pass rewrote nothing, and that over the extended
    reals the kernel's three results are the reference's. -/
theorem claim : Cert.Claim := ⟨Cert.Kernel.Gen.facts, Cert.KernelIdeal.Gen.facts, Cert.ReferenceIdeal.Gen.facts,
  fun m g _ => Cert.Kernel.Hand.frame_run (F := Bits) m g,
  fun m g _ => Cert.KernelIdeal.Hand.frame_run (F := Ideal) m g,
  fun m g _ => Cert.ReferenceIdeal.Gen.frame (F := Ideal) m g,
  trivial,
  fun m g m' g' _ hargs => ⟨_, _, _, Cert.KernelIdeal.Hand.run m g,
    (θ_run _ _ _).mono (fun r h c => by
      have e := hargs c
      have k := h c
      rw [e.1, e.2.1, e.2.2] at k
      exact ⟨k.1, k.2.1, k.2.2.1, k.2.2.2.1.trans e.1.symm, k.2.2.2.2.1.trans e.2.1.symm, k.2.2.2.2.2.trans e.2.2.symm⟩)
      (Cert.ReferenceIdeal.Value.run m' g')⟩⟩

end Cert.Proof

end
